-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x16384 : Shape := ⟨3, ![2, 128, 16384]⟩
abbrev S8192x5120 : Shape := ⟨2, ![8192, 5120]⟩
abbrev S256x5120 : Shape := ⟨2, ![256, 5120]⟩
abbrev S16384x16 : Shape := ⟨2, ![16384, 16]⟩
abbrev S16x5120 : Shape := ⟨2, ![16, 5120]⟩
abbrev S256x16384 : Shape := ⟨2, ![256, 16384]⟩
abbrev S8192x512 : Shape := ⟨2, ![8192, 512]⟩
abbrev S256x512 : Shape := ⟨2, ![256, 512]⟩
abbrev S16x512 : Shape := ⟨2, ![16, 512]⟩
abbrev S256x16 : Shape := ⟨2, ![256, 16]⟩
abbrev S256x128 : Shape := ⟨2, ![256, 128]⟩
abbrev S256x128x1 : Shape := ⟨3, ![256, 128, 1]⟩
abbrev S32x512 : Shape := ⟨2, ![32, 512]⟩
abbrev S1x512 : Shape := ⟨2, ![1, 512]⟩
abbrev S8x512 : Shape := ⟨2, ![8, 512]⟩
abbrev S16x512x1 : Shape := ⟨3, ![16, 512, 1]⟩
abbrev S64x512 : Shape := ⟨2, ![64, 512]⟩
abbrev S2048x512 : Shape := ⟨2, ![2048, 512]⟩
abbrev S256x2048 : Shape := ⟨2, ![256, 2048]⟩

abbrev nBuf : Space → Nat
  | .hbm => 7
  | .vmem => 13
  | .smem => 0
  | _ => 0

abbrev bufTy : (tb : Table) → Fin (tcTables nBuf tb) → BufTy
  | .hbm, ⟨0, _⟩ => ⟨S2x128x16384, .bf16⟩
  | .hbm, ⟨1, _⟩ => ⟨S8192x5120, .i8⟩
  | .hbm, ⟨2, _⟩ => ⟨S256x5120, .f32⟩
  | .hbm, ⟨3, _⟩ => ⟨S16384x16, .bf16⟩
  | .hbm, ⟨4, _⟩ => ⟨S16x5120, .bf16⟩
  | .hbm, ⟨5, _⟩ => ⟨S256x16384, .bf16⟩
  | .hbm, ⟨6, _⟩ => ⟨S256x5120, .bf16⟩
  | .local _ .vmem, ⟨0, _⟩ => ⟨S256x16384, .bf16⟩
  | .local _ .vmem, ⟨1, _⟩ => ⟨S8192x512, .i8⟩
  | .local _ .vmem, ⟨2, _⟩ => ⟨S8192x512, .i8⟩
  | .local _ .vmem, ⟨3, _⟩ => ⟨S256x512, .f32⟩
  | .local _ .vmem, ⟨4, _⟩ => ⟨S256x512, .f32⟩
  | .local _ .vmem, ⟨5, _⟩ => ⟨S16384x16, .bf16⟩
  | .local _ .vmem, ⟨6, _⟩ => ⟨S16x512, .bf16⟩
  | .local _ .vmem, ⟨7, _⟩ => ⟨S16x512, .bf16⟩
  | .local _ .vmem, ⟨8, _⟩ => ⟨S256x512, .bf16⟩
  | .local _ .vmem, ⟨9, _⟩ => ⟨S256x512, .bf16⟩
  | .local _ .vmem, ⟨10, _⟩ => ⟨S256x16384, .bf16⟩
  | .local _ .vmem, ⟨11, _⟩ => ⟨S256x16, .bf16⟩
  | .local _ .vmem, ⟨12, _⟩ => ⟨S256x512, .f32⟩
  | _, _ => ⟨S2x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_42 : BitVec 32 := 0#32
  let c128_i32 : BitVec 32 := 128#32
  let v108 : BitVec 32 := Scalar.addi c0_i32_42 c128_i32
  let c1_i32_43 : BitVec 32 := 1#32
  ⟨c0_i32_42, v108, c1_i32_43⟩
def k0_mult1 (k0_t1 : Fin k0_t1_loop.trips) : BitVec 32 :=
  let c0_i32_42 : BitVec 32 := 0#32
  let c1_i32_43 : BitVec 32 := 1#32
  let arg10 : BitVec 32 := Scf.iv c0_i32_42 c1_i32_43 k0_t1
  let c128_i32_53 : BitVec 32 := 128#32
  let v119 : BitVec 32 := Scalar.muli arg10 c128_i32_53
  v119
def k0_off1 (k0_t1 : Fin k0_t1_loop.trips) : Fin 2 → Nat :=
  let c0_54 : Index := 0#32
  let c0_i32_42 : BitVec 32 := 0#32
  let c1_i32_43 : BitVec 32 := 1#32
  let arg10 : BitVec 32 := Scf.iv c0_i32_42 c1_i32_43 k0_t1
  let c128_i32_53 : BitVec 32 := 128#32
  let v119 : BitVec 32 := Scalar.muli arg10 c128_i32_53
  let v120 : BitVec 32 := v119
  let v121 : Index := Scalar.indexCast v120
  ![0, v121.toNat]
@[reducible] def k0_t2_loop : Scf.Loop 32 :=
  let c0_i32_24 : BitVec 32 := 0#32
  let c8_i32_25 : BitVec 32 := 8#32
  let v77 : BitVec 32 := Scalar.addi c0_i32_24 c8_i32_25
  let c1_i32_26 : BitVec 32 := 1#32
  ⟨c0_i32_24, v77, c1_i32_26⟩
def k0_mult2 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c32_i32 : BitVec 32 := 32#32
  let v81 : BitVec 32 := Scalar.muli arg10 c32_i32
  v81
def k0_off2 (k0_t2 : Fin k0_t2_loop.trips) : Fin 2 → Nat :=
  let c0_i32_24 : BitVec 32 := 0#32
  let c1_i32_26 : BitVec 32 := 1#32
  let arg10 : BitVec 32 := Scf.iv c0_i32_24 c1_i32_26 k0_t2
  let c32_i32 : BitVec 32 := 32#32
  let v81 : BitVec 32 := Scalar.muli arg10 c32_i32
  let v82 : BitVec 32 := v81
  let v83 : Index := Scalar.indexCast v82
  let c0_32 : Index := 0#32
  ![v83.toNat, 0]
def k0_mult3 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32 : BitVec 32 := 1024#32
  let v85 : BitVec 32 := Scalar.muli arg10 c1024_i32
  let c0_i32_33 : BitVec 32 := 0#32
  let v86 : BitVec 32 := Scalar.addi v85 c0_i32_33
  v86
def k0_off3 (k0_t2 : Fin k0_t2_loop.trips) (c0_i32_33 : BitVec 32) : Fin 2 → Nat :=
  let c0_i32_24 : BitVec 32 := 0#32
  let c1_i32_26 : BitVec 32 := 1#32
  let arg10 : BitVec 32 := Scf.iv c0_i32_24 c1_i32_26 k0_t2
  let c1024_i32 : BitVec 32 := 1024#32
  let v85 : BitVec 32 := Scalar.muli arg10 c1024_i32
  let v86 : BitVec 32 := Scalar.addi v85 c0_i32_33
  let v87 : BitVec 32 := v86
  let v88 : Index := Scalar.indexCast v87
  let c0_34 : Index := 0#32
  ![v88.toNat, 0]
def k0_mult4 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_54 : BitVec 32 := 1024#32
  let v175 : BitVec 32 := Scalar.muli arg10 c1024_i32_54
  let c32_i32_55 : BitVec 32 := 32#32
  let v176 : BitVec 32 := Scalar.addi v175 c32_i32_55
  v176
def k0_mult5 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_79 : BitVec 32 := 1024#32
  let v265 : BitVec 32 := Scalar.muli arg10 c1024_i32_79
  let c64_i32 : BitVec 32 := 64#32
  let v266 : BitVec 32 := Scalar.addi v265 c64_i32
  v266
def k0_mult6 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_103 : BitVec 32 := 1024#32
  let v355 : BitVec 32 := Scalar.muli arg10 c1024_i32_103
  let c96_i32 : BitVec 32 := 96#32
  let v356 : BitVec 32 := Scalar.addi v355 c96_i32
  v356
def k0_mult7 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_127 : BitVec 32 := 1024#32
  let v445 : BitVec 32 := Scalar.muli arg10 c1024_i32_127
  let c128_i32 : BitVec 32 := 128#32
  let v446 : BitVec 32 := Scalar.addi v445 c128_i32
  v446
def k0_mult8 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_151 : BitVec 32 := 1024#32
  let v535 : BitVec 32 := Scalar.muli arg10 c1024_i32_151
  let c160_i32 : BitVec 32 := 160#32
  let v536 : BitVec 32 := Scalar.addi v535 c160_i32
  v536
def k0_mult9 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_175 : BitVec 32 := 1024#32
  let v625 : BitVec 32 := Scalar.muli arg10 c1024_i32_175
  let c192_i32 : BitVec 32 := 192#32
  let v626 : BitVec 32 := Scalar.addi v625 c192_i32
  v626
def k0_mult10 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_199 : BitVec 32 := 1024#32
  let v715 : BitVec 32 := Scalar.muli arg10 c1024_i32_199
  let c224_i32 : BitVec 32 := 224#32
  let v716 : BitVec 32 := Scalar.addi v715 c224_i32
  v716
def k0_mult11 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_223 : BitVec 32 := 1024#32
  let v805 : BitVec 32 := Scalar.muli arg10 c1024_i32_223
  let c256_i32 : BitVec 32 := 256#32
  let v806 : BitVec 32 := Scalar.addi v805 c256_i32
  v806
def k0_mult12 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_247 : BitVec 32 := 1024#32
  let v895 : BitVec 32 := Scalar.muli arg10 c1024_i32_247
  let c288_i32 : BitVec 32 := 288#32
  let v896 : BitVec 32 := Scalar.addi v895 c288_i32
  v896
def k0_mult13 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_271 : BitVec 32 := 1024#32
  let v985 : BitVec 32 := Scalar.muli arg10 c1024_i32_271
  let c320_i32 : BitVec 32 := 320#32
  let v986 : BitVec 32 := Scalar.addi v985 c320_i32
  v986
def k0_mult14 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_295 : BitVec 32 := 1024#32
  let v1075 : BitVec 32 := Scalar.muli arg10 c1024_i32_295
  let c352_i32 : BitVec 32 := 352#32
  let v1076 : BitVec 32 := Scalar.addi v1075 c352_i32
  v1076
def k0_mult15 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_319 : BitVec 32 := 1024#32
  let v1165 : BitVec 32 := Scalar.muli arg10 c1024_i32_319
  let c384_i32 : BitVec 32 := 384#32
  let v1166 : BitVec 32 := Scalar.addi v1165 c384_i32
  v1166
def k0_mult16 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_343 : BitVec 32 := 1024#32
  let v1255 : BitVec 32 := Scalar.muli arg10 c1024_i32_343
  let c416_i32 : BitVec 32 := 416#32
  let v1256 : BitVec 32 := Scalar.addi v1255 c416_i32
  v1256
def k0_mult17 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_367 : BitVec 32 := 1024#32
  let v1345 : BitVec 32 := Scalar.muli arg10 c1024_i32_367
  let c448_i32 : BitVec 32 := 448#32
  let v1346 : BitVec 32 := Scalar.addi v1345 c448_i32
  v1346
def k0_mult18 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_391 : BitVec 32 := 1024#32
  let v1435 : BitVec 32 := Scalar.muli arg10 c1024_i32_391
  let c480_i32 : BitVec 32 := 480#32
  let v1436 : BitVec 32 := Scalar.addi v1435 c480_i32
  v1436
def k0_mult19 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_415 : BitVec 32 := 1024#32
  let v1525 : BitVec 32 := Scalar.muli arg10 c1024_i32_415
  let c512_i32 : BitVec 32 := 512#32
  let v1526 : BitVec 32 := Scalar.addi v1525 c512_i32
  v1526
def k0_mult20 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_439 : BitVec 32 := 1024#32
  let v1615 : BitVec 32 := Scalar.muli arg10 c1024_i32_439
  let c544_i32 : BitVec 32 := 544#32
  let v1616 : BitVec 32 := Scalar.addi v1615 c544_i32
  v1616
def k0_mult21 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_463 : BitVec 32 := 1024#32
  let v1705 : BitVec 32 := Scalar.muli arg10 c1024_i32_463
  let c576_i32 : BitVec 32 := 576#32
  let v1706 : BitVec 32 := Scalar.addi v1705 c576_i32
  v1706
def k0_mult22 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_487 : BitVec 32 := 1024#32
  let v1795 : BitVec 32 := Scalar.muli arg10 c1024_i32_487
  let c608_i32 : BitVec 32 := 608#32
  let v1796 : BitVec 32 := Scalar.addi v1795 c608_i32
  v1796
def k0_mult23 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_511 : BitVec 32 := 1024#32
  let v1885 : BitVec 32 := Scalar.muli arg10 c1024_i32_511
  let c640_i32 : BitVec 32 := 640#32
  let v1886 : BitVec 32 := Scalar.addi v1885 c640_i32
  v1886
def k0_mult24 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_535 : BitVec 32 := 1024#32
  let v1975 : BitVec 32 := Scalar.muli arg10 c1024_i32_535
  let c672_i32 : BitVec 32 := 672#32
  let v1976 : BitVec 32 := Scalar.addi v1975 c672_i32
  v1976
def k0_mult25 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_559 : BitVec 32 := 1024#32
  let v2065 : BitVec 32 := Scalar.muli arg10 c1024_i32_559
  let c704_i32 : BitVec 32 := 704#32
  let v2066 : BitVec 32 := Scalar.addi v2065 c704_i32
  v2066
def k0_mult26 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_583 : BitVec 32 := 1024#32
  let v2155 : BitVec 32 := Scalar.muli arg10 c1024_i32_583
  let c736_i32 : BitVec 32 := 736#32
  let v2156 : BitVec 32 := Scalar.addi v2155 c736_i32
  v2156
def k0_mult27 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_607 : BitVec 32 := 1024#32
  let v2245 : BitVec 32 := Scalar.muli arg10 c1024_i32_607
  let c768_i32 : BitVec 32 := 768#32
  let v2246 : BitVec 32 := Scalar.addi v2245 c768_i32
  v2246
def k0_mult28 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_631 : BitVec 32 := 1024#32
  let v2335 : BitVec 32 := Scalar.muli arg10 c1024_i32_631
  let c800_i32 : BitVec 32 := 800#32
  let v2336 : BitVec 32 := Scalar.addi v2335 c800_i32
  v2336
def k0_mult29 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_655 : BitVec 32 := 1024#32
  let v2425 : BitVec 32 := Scalar.muli arg10 c1024_i32_655
  let c832_i32 : BitVec 32 := 832#32
  let v2426 : BitVec 32 := Scalar.addi v2425 c832_i32
  v2426
def k0_mult30 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_679 : BitVec 32 := 1024#32
  let v2515 : BitVec 32 := Scalar.muli arg10 c1024_i32_679
  let c864_i32 : BitVec 32 := 864#32
  let v2516 : BitVec 32 := Scalar.addi v2515 c864_i32
  v2516
def k0_mult31 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_703 : BitVec 32 := 1024#32
  let v2605 : BitVec 32 := Scalar.muli arg10 c1024_i32_703
  let c896_i32 : BitVec 32 := 896#32
  let v2606 : BitVec 32 := Scalar.addi v2605 c896_i32
  v2606
def k0_mult32 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_727 : BitVec 32 := 1024#32
  let v2695 : BitVec 32 := Scalar.muli arg10 c1024_i32_727
  let c928_i32 : BitVec 32 := 928#32
  let v2696 : BitVec 32 := Scalar.addi v2695 c928_i32
  v2696
def k0_mult33 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_751 : BitVec 32 := 1024#32
  let v2785 : BitVec 32 := Scalar.muli arg10 c1024_i32_751
  let c960_i32 : BitVec 32 := 960#32
  let v2786 : BitVec 32 := Scalar.addi v2785 c960_i32
  v2786
def k0_mult34 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c1024_i32_775 : BitVec 32 := 1024#32
  let v2875 : BitVec 32 := Scalar.muli arg10 c1024_i32_775
  let c992_i32 : BitVec 32 := 992#32
  let v2876 : BitVec 32 := Scalar.addi v2875 c992_i32
  v2876
def k0_mult35 (k0_t2 : Fin k0_t2_loop.trips) : BitVec 32 :=
  let c0_i32_24 : BitVec 32 := 0#32
  let c1_i32_26 : BitVec 32 := 1#32
  let arg10 : BitVec 32 := Scf.iv c0_i32_24 c1_i32_26 k0_t2
  let c2048_i32 : BitVec 32 := 2048#32
  let v2967 : BitVec 32 := Scalar.muli arg10 c2048_i32
  v2967
def k0_off4 (k0_t2 : Fin k0_t2_loop.trips) : Fin 2 → Nat :=
  let c0_801 : Index := 0#32
  let c0_i32_24 : BitVec 32 := 0#32
  let c1_i32_26 : BitVec 32 := 1#32
  let arg10 : BitVec 32 := Scf.iv c0_i32_24 c1_i32_26 k0_t2
  let c2048_i32 : BitVec 32 := 2048#32
  let v2967 : BitVec 32 := Scalar.muli arg10 c2048_i32
  let v2968 : BitVec 32 := v2967
  let v2969 : Index := Scalar.indexCast v2968
  ![0, v2969.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16384x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x128x16384 : Shape := ⟨3, ![2, 128, 16384]⟩
abbrev S8192x5120 : Shape := ⟨2, ![8192, 5120]⟩
abbrev S256x5120 : Shape := ⟨2, ![256, 5120]⟩
abbrev S16384x16 : Shape := ⟨2, ![16384, 16]⟩
abbrev S16x5120 : Shape := ⟨2, ![16, 5120]⟩
abbrev S256x32x5120 : Shape := ⟨3, ![256, 32, 5120]⟩
abbrev S256x1x5120 : Shape := ⟨3, ![256, 1, 5120]⟩
abbrev S_ : Shape := ⟨0, ![]⟩
abbrev S2x128x8192x2 : Shape := ⟨4, ![2, 128, 8192, 2]⟩
abbrev S2x128x8192x1 : Shape := ⟨4, ![2, 128, 8192, 1]⟩
abbrev S2x128x8192 : Shape := ⟨3, ![2, 128, 8192]⟩
abbrev S2x128x5120 : Shape := ⟨3, ![2, 128, 5120]⟩
abbrev S2x128x16 : Shape := ⟨3, ![2, 128, 16]⟩

abbrev nBuf : Space → Nat
  | .hbm => 182
  | .vmem => 0
  | .smem => 0
  | _ => 0

abbrev hbmTy0_0 (i : Nat) : BufTy := match i % 128 with
  | 0 => ⟨S2x128x16384, .bf16⟩
  | 1 => ⟨S8192x5120, .i8⟩
  | 2 => ⟨S256x5120, .f32⟩
  | 3 => ⟨S16384x16, .bf16⟩
  | 4 => ⟨S16x5120, .bf16⟩
  | 5 => ⟨S8192x5120, .i32⟩
  | 6 => ⟨S256x32x5120, .i32⟩
  | 7 => ⟨S256x5120, .bf16⟩
  | 8 => ⟨S256x1x5120, .bf16⟩
  | 9 => ⟨S_, .i32⟩
  | 10 => ⟨S256x32x5120, .i32⟩
  | 11 => ⟨S256x32x5120, .i32⟩
  | 12 => ⟨S_, .i32⟩
  | 13 => ⟨S256x32x5120, .i32⟩
  | 14 => ⟨S256x32x5120, .i32⟩
  | 15 => ⟨S_, .i32⟩
  | 16 => ⟨S256x32x5120, .i32⟩
  | 17 => ⟨S256x32x5120, .i1⟩
  | 18 => ⟨S_, .i32⟩
  | 19 => ⟨S256x32x5120, .i32⟩
  | 20 => ⟨S256x32x5120, .i32⟩
  | 21 => ⟨S_, .i32⟩
  | 22 => ⟨S256x32x5120, .i32⟩
  | 23 => ⟨S256x32x5120, .i1⟩
  | 24 => ⟨S_, .i32⟩
  | 25 => ⟨S256x32x5120, .i32⟩
  | 26 => ⟨S256x32x5120, .i32⟩
  | 27 => ⟨S_, .i32⟩
  | 28 => ⟨S256x32x5120, .i32⟩
  | 29 => ⟨S256x32x5120, .i1⟩
  | 30 => ⟨S_, .i32⟩
  | 31 => ⟨S256x32x5120, .i32⟩
  | 32 => ⟨S256x32x5120, .i32⟩
  | 33 => ⟨S_, .i32⟩
  | 34 => ⟨S256x32x5120, .i32⟩
  | 35 => ⟨S256x32x5120, .i1⟩
  | 36 => ⟨S_, .f32⟩
  | 37 => ⟨S_, .f32⟩
  | 38 => ⟨S256x32x5120, .f32⟩
  | 39 => ⟨S256x32x5120, .f32⟩
  | 40 => ⟨S256x32x5120, .f32⟩
  | 41 => ⟨S_, .f32⟩
  | 42 => ⟨S_, .f32⟩
  | 43 => ⟨S256x32x5120, .f32⟩
  | 44 => ⟨S256x32x5120, .f32⟩
  | 45 => ⟨S256x32x5120, .f32⟩
  | 46 => ⟨S256x32x5120, .f32⟩
  | 47 => ⟨S_, .f32⟩
  | 48 => ⟨S_, .f32⟩
  | 49 => ⟨S256x32x5120, .f32⟩
  | 50 => ⟨S256x32x5120, .f32⟩
  | 51 => ⟨S256x32x5120, .f32⟩
  | 52 => ⟨S_, .f32⟩
  | 53 => ⟨S_, .f32⟩
  | 54 => ⟨S256x32x5120, .f32⟩
  | 55 => ⟨S256x32x5120, .f32⟩
  | 56 => ⟨S256x32x5120, .f32⟩
  | 57 => ⟨S256x32x5120, .f32⟩
  | 58 => ⟨S256x32x5120, .f32⟩
  | 59 => ⟨S_, .f32⟩
  | 60 => ⟨S_, .f32⟩
  | 61 => ⟨S256x32x5120, .f32⟩
  | 62 => ⟨S256x32x5120, .f32⟩
  | 63 => ⟨S256x32x5120, .f32⟩
  | 64 => ⟨S_, .f32⟩
  | 65 => ⟨S_, .f32⟩
  | 66 => ⟨S256x32x5120, .f32⟩
  | 67 => ⟨S256x32x5120, .f32⟩
  | 68 => ⟨S256x32x5120, .f32⟩
  | 69 => ⟨S256x32x5120, .f32⟩
  | 70 => ⟨S_, .f32⟩
  | 71 => ⟨S_, .f32⟩
  | 72 => ⟨S256x32x5120, .f32⟩
  | 73 => ⟨S256x32x5120, .f32⟩
  | 74 => ⟨S256x32x5120, .f32⟩
  | 75 => ⟨S_, .f32⟩
  | 76 => ⟨S_, .f32⟩
  | 77 => ⟨S256x32x5120, .f32⟩
  | 78 => ⟨S256x32x5120, .f32⟩
  | 79 => ⟨S256x32x5120, .f32⟩
  | 80 => ⟨S256x32x5120, .f32⟩
  | 81 => ⟨S256x32x5120, .f32⟩
  | 82 => ⟨S256x32x5120, .f32⟩
  | 83 => ⟨S256x32x5120, .bf16⟩
  | 84 => ⟨S256x32x5120, .bf16⟩
  | 85 => ⟨S256x32x5120, .bf16⟩
  | 86 => ⟨S8192x5120, .bf16⟩
  | 87 => ⟨S_, .i32⟩
  | 88 => ⟨S256x32x5120, .i32⟩
  | 89 => ⟨S256x32x5120, .i32⟩
  | 90 => ⟨S_, .i32⟩
  | 91 => ⟨S256x32x5120, .i32⟩
  | 92 => ⟨S256x32x5120, .i32⟩
  | 93 => ⟨S_, .i32⟩
  | 94 => ⟨S256x32x5120, .i32⟩
  | 95 => ⟨S256x32x5120, .i1⟩
  | 96 => ⟨S_, .i32⟩
  | 97 => ⟨S256x32x5120, .i32⟩
  | 98 => ⟨S256x32x5120, .i32⟩
  | 99 => ⟨S_, .i32⟩
  | 100 => ⟨S256x32x5120, .i32⟩
  | 101 => ⟨S256x32x5120, .i1⟩
  | 102 => ⟨S_, .i32⟩
  | 103 => ⟨S256x32x5120, .i32⟩
  | 104 => ⟨S256x32x5120, .i32⟩
  | 105 => ⟨S_, .i32⟩
  | 106 => ⟨S256x32x5120, .i32⟩
  | 107 => ⟨S256x32x5120, .i1⟩
  | 108 => ⟨S_, .i32⟩
  | 109 => ⟨S256x32x5120, .i32⟩
  | 110 => ⟨S256x32x5120, .i32⟩
  | 111 => ⟨S_, .i32⟩
  | 112 => ⟨S256x32x5120, .i32⟩
  | 113 => ⟨S256x32x5120, .i1⟩
  | 114 => ⟨S_, .f32⟩
  | 115 => ⟨S_, .f32⟩
  | 116 => ⟨S256x32x5120, .f32⟩
  | 117 => ⟨S256x32x5120, .f32⟩
  | 118 => ⟨S256x32x5120, .f32⟩
  | 119 => ⟨S_, .f32⟩
  | 120 => ⟨S_, .f32⟩
  | 121 => ⟨S256x32x5120, .f32⟩
  | 122 => ⟨S256x32x5120, .f32⟩
  | 123 => ⟨S256x32x5120, .f32⟩
  | 124 => ⟨S256x32x5120, .f32⟩
  | 125 => ⟨S_, .f32⟩
  | 126 => ⟨S_, .f32⟩
  | 127 => ⟨S256x32x5120, .f32⟩
  | _ => ⟨S2x128x16384, .bf16⟩

abbrev hbmTy0_1 (i : Nat) : BufTy := match i % 128 with
  | 0 => ⟨S256x32x5120, .f32⟩
  | 1 => ⟨S256x32x5120, .f32⟩
  | 2 => ⟨S_, .f32⟩
  | 3 => ⟨S_, .f32⟩
  | 4 => ⟨S256x32x5120, .f32⟩
  | 5 => ⟨S256x32x5120, .f32⟩
  | 6 => ⟨S256x32x5120, .f32⟩
  | 7 => ⟨S256x32x5120, .f32⟩
  | 8 => ⟨S256x32x5120, .f32⟩
  | 9 => ⟨S_, .f32⟩
  | 10 => ⟨S_, .f32⟩
  | 11 => ⟨S256x32x5120, .f32⟩
  | 12 => ⟨S256x32x5120, .f32⟩
  | 13 => ⟨S256x32x5120, .f32⟩
  | 14 => ⟨S_, .f32⟩
  | 15 => ⟨S_, .f32⟩
  | 16 => ⟨S256x32x5120, .f32⟩
  | 17 => ⟨S256x32x5120, .f32⟩
  | 18 => ⟨S256x32x5120, .f32⟩
  | 19 => ⟨S256x32x5120, .f32⟩
  | 20 => ⟨S_, .f32⟩
  | 21 => ⟨S_, .f32⟩
  | 22 => ⟨S256x32x5120, .f32⟩
  | 23 => ⟨S256x32x5120, .f32⟩
  | 24 => ⟨S256x32x5120, .f32⟩
  | 25 => ⟨S_, .f32⟩
  | 26 => ⟨S_, .f32⟩
  | 27 => ⟨S256x32x5120, .f32⟩
  | 28 => ⟨S256x32x5120, .f32⟩
  | 29 => ⟨S256x32x5120, .f32⟩
  | 30 => ⟨S256x32x5120, .f32⟩
  | 31 => ⟨S256x32x5120, .f32⟩
  | 32 => ⟨S256x32x5120, .f32⟩
  | 33 => ⟨S256x32x5120, .bf16⟩
  | 34 => ⟨S256x32x5120, .bf16⟩
  | 35 => ⟨S256x32x5120, .bf16⟩
  | 36 => ⟨S8192x5120, .bf16⟩
  | 37 => ⟨S2x128x8192x2, .bf16⟩
  | 38 => ⟨S2x128x8192x1, .bf16⟩
  | 39 => ⟨S2x128x8192, .bf16⟩
  | 40 => ⟨S2x128x5120, .f32⟩
  | 41 => ⟨S2x128x8192x1, .bf16⟩
  | 42 => ⟨S2x128x8192, .bf16⟩
  | 43 => ⟨S2x128x5120, .f32⟩
  | 44 => ⟨S2x128x5120, .f32⟩
  | 45 => ⟨S2x128x16, .f32⟩
  | 46 => ⟨S2x128x16, .bf16⟩
  | 47 => ⟨S2x128x5120, .f32⟩
  | 48 => ⟨S_, .f32⟩
  | 49 => ⟨S2x128x5120, .f32⟩
  | 50 => ⟨S2x128x5120, .f32⟩
  | 51 => ⟨S2x128x5120, .f32⟩
  | 52 => ⟨S2x128x5120, .bf16⟩
  | 53 => ⟨S256x5120, .bf16⟩
  | _ => ⟨S2x128x16384, .bf16⟩

abbrev hbmTy (i : Nat) : BufTy := match i / 128 with
  | 0 => hbmTy0_0 i
  | 1 => hbmTy0_1 i
  | _ => ⟨S2x128x16384, .bf16⟩

abbrev bufTy : (tb : Table) → Fin (tcTables nBuf tb) → BufTy
  | .hbm, ⟨i, _⟩ => hbmTy i
  | _, _ => ⟨S2x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_c_6 : Ref sig .tc := ⟨.hbm, 30, rfl⟩
abbrev main_v18 : Ref sig .tc := ⟨.hbm, 31, rfl⟩
abbrev main_v19 : Ref sig .tc := ⟨.hbm, 32, rfl⟩
abbrev main_c_7 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_cst_8 : Ref sig .tc := ⟨.hbm, 37, rfl⟩
abbrev main_call0_v0 : Ref sig .tc := ⟨.hbm, 38, rfl⟩
abbrev main_call0_v1 : Ref sig .tc := ⟨.hbm, 39, rfl⟩
abbrev main_v22 : Ref sig .tc := ⟨.hbm, 40, rfl⟩
abbrev main_cst_9 : Ref sig .tc := ⟨.hbm, 41, rfl⟩
abbrev main_cst_10 : Ref sig .tc := ⟨.hbm, 42, rfl⟩
abbrev main_call1_v0 : Ref sig .tc := ⟨.hbm, 43, rfl⟩
abbrev main_call1_v1 : Ref sig .tc := ⟨.hbm, 44, rfl⟩
abbrev main_v23 : Ref sig .tc := ⟨.hbm, 45, rfl⟩
abbrev main_v24 : Ref sig .tc := ⟨.hbm, 46, rfl⟩
abbrev main_cst_11 : Ref sig .tc := ⟨.hbm, 47, rfl⟩
abbrev main_cst_12 : Ref sig .tc := ⟨.hbm, 48, rfl⟩
abbrev main_call3_v0 : Ref sig .tc := ⟨.hbm, 49, rfl⟩
abbrev main_call3_v1 : Ref sig .tc := ⟨.hbm, 50, rfl⟩
abbrev main_v25 : Ref sig .tc := ⟨.hbm, 51, rfl⟩
abbrev main_cst_13 : Ref sig .tc := ⟨.hbm, 52, rfl⟩
abbrev main_cst_14 : Ref sig .tc := ⟨.hbm, 53, rfl⟩
abbrev main_call4_v0 : Ref sig .tc := ⟨.hbm, 54, rfl⟩
abbrev main_call4_v1 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_15 : Ref sig .tc := ⟨.hbm, 59, rfl⟩
abbrev main_cst_16 : Ref sig .tc := ⟨.hbm, 60, rfl⟩
abbrev main_call7_v0 : Ref sig .tc := ⟨.hbm, 61, rfl⟩
abbrev main_call7_v1 : Ref sig .tc := ⟨.hbm, 62, rfl⟩
abbrev main_v29 : Ref sig .tc := ⟨.hbm, 63, rfl⟩
abbrev main_cst_17 : Ref sig .tc := ⟨.hbm, 64, rfl⟩
abbrev main_cst_18 : Ref sig .tc := ⟨.hbm, 65, rfl⟩
abbrev main_call8_v0 : Ref sig .tc := ⟨.hbm, 66, rfl⟩
abbrev main_call8_v1 : Ref sig .tc := ⟨.hbm, 67, rfl⟩
abbrev main_v30 : Ref sig .tc := ⟨.hbm, 68, rfl⟩
abbrev main_v31 : Ref sig .tc := ⟨.hbm, 69, rfl⟩
abbrev main_cst_19 : Ref sig .tc := ⟨.hbm, 70, rfl⟩
abbrev main_cst_20 : Ref sig .tc := ⟨.hbm, 71, rfl⟩
abbrev main_call10_v0 : Ref sig .tc := ⟨.hbm, 72, rfl⟩
abbrev main_call10_v1 : Ref sig .tc := ⟨.hbm, 73, rfl⟩
abbrev main_v32 : Ref sig .tc := ⟨.hbm, 74, rfl⟩
abbrev main_cst_21 : Ref sig .tc := ⟨.hbm, 75, rfl⟩
abbrev main_cst_22 : Ref sig .tc := ⟨.hbm, 76, rfl⟩
abbrev main_call11_v0 : Ref sig .tc := ⟨.hbm, 77, rfl⟩
abbrev main_call11_v1 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_23 : Ref sig .tc := ⟨.hbm, 87, rfl⟩
abbrev main_v41 : Ref sig .tc := ⟨.hbm, 88, rfl⟩
abbrev main_v42 : Ref sig .tc := ⟨.hbm, 89, rfl⟩
abbrev main_c_24 : Ref sig .tc := ⟨.hbm, 90, rfl⟩
abbrev main_v43 : Ref sig .tc := ⟨.hbm, 91, rfl⟩
abbrev main_v44 : Ref sig .tc := ⟨.hbm, 92, rfl⟩
abbrev main_c_25 : Ref sig .tc := ⟨.hbm, 93, rfl⟩
abbrev main_v45 : Ref sig .tc := ⟨.hbm, 94, rfl⟩
abbrev main_v46 : Ref sig .tc := ⟨.hbm, 95, rfl⟩
abbrev main_c_26 : Ref sig .tc := ⟨.hbm, 96, rfl⟩
abbrev main_v47 : Ref sig .tc := ⟨.hbm, 97, rfl⟩
abbrev main_v48 : Ref sig .tc := ⟨.hbm, 98, rfl⟩
abbrev main_c_27 : Ref sig .tc := ⟨.hbm, 99, rfl⟩
abbrev main_v49 : Ref sig .tc := ⟨.hbm, 100, rfl⟩
abbrev main_v50 : Ref sig .tc := ⟨.hbm, 101, rfl⟩
abbrev main_c_28 : Ref sig .tc := ⟨.hbm, 102, rfl⟩
abbrev main_v51 : Ref sig .tc := ⟨.hbm, 103, rfl⟩
abbrev main_v52 : Ref sig .tc := ⟨.hbm, 104, rfl⟩
abbrev main_c_29 : Ref sig .tc := ⟨.hbm, 105, rfl⟩
abbrev main_v53 : Ref sig .tc := ⟨.hbm, 106, rfl⟩
abbrev main_v54 : Ref sig .tc := ⟨.hbm, 107, rfl⟩
abbrev main_c_30 : Ref sig .tc := ⟨.hbm, 108, rfl⟩
abbrev main_v55 : Ref sig .tc := ⟨.hbm, 109, rfl⟩
abbrev main_v56 : Ref sig .tc := ⟨.hbm, 110, rfl⟩
abbrev main_c_31 : Ref sig .tc := ⟨.hbm, 111, rfl⟩
abbrev main_v57 : Ref sig .tc := ⟨.hbm, 112, rfl⟩
abbrev main_v58 : Ref sig .tc := ⟨.hbm, 113, rfl⟩
abbrev main_cst_32 : Ref sig .tc := ⟨.hbm, 114, rfl⟩
abbrev main_cst_33 : Ref sig .tc := ⟨.hbm, 115, rfl⟩
abbrev main_call15_v0 : Ref sig .tc := ⟨.hbm, 116, rfl⟩
abbrev main_call15_v1 : Ref sig .tc := ⟨.hbm, 117, rfl⟩
abbrev main_v59 : Ref sig .tc := ⟨.hbm, 118, rfl⟩
abbrev main_cst_34 : Ref sig .tc := ⟨.hbm, 119, rfl⟩
abbrev main_cst_35 : Ref sig .tc := ⟨.hbm, 120, rfl⟩
abbrev main_call16_v0 : Ref sig .tc := ⟨.hbm, 121, rfl⟩
abbrev main_call16_v1 : Ref sig .tc := ⟨.hbm, 122, rfl⟩
abbrev main_v60 : Ref sig .tc := ⟨.hbm, 123, rfl⟩
abbrev main_v61 : Ref sig .tc := ⟨.hbm, 124, rfl⟩
abbrev main_cst_36 : Ref sig .tc := ⟨.hbm, 125, rfl⟩
abbrev main_cst_37 : Ref sig .tc := ⟨.hbm, 126, rfl⟩
abbrev main_call18_v0 : Ref sig .tc := ⟨.hbm, 127, rfl⟩
abbrev main_call18_v1 : Ref sig .tc := ⟨.hbm, 128, rfl⟩
abbrev main_v62 : Ref sig .tc := ⟨.hbm, 129, rfl⟩
abbrev main_cst_38 : Ref sig .tc := ⟨.hbm, 130, rfl⟩
abbrev main_cst_39 : Ref sig .tc := ⟨.hbm, 131, rfl⟩
abbrev main_call19_v0 : Ref sig .tc := ⟨.hbm, 132, rfl⟩
abbrev main_call19_v1 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_cst_40 : Ref sig .tc := ⟨.hbm, 137, rfl⟩
abbrev main_cst_41 : Ref sig .tc := ⟨.hbm, 138, rfl⟩
abbrev main_call22_v0 : Ref sig .tc := ⟨.hbm, 139, rfl⟩
abbrev main_call22_v1 : Ref sig .tc := ⟨.hbm, 140, rfl⟩
abbrev main_v66 : Ref sig .tc := ⟨.hbm, 141, rfl⟩
abbrev main_cst_42 : Ref sig .tc := ⟨.hbm, 142, rfl⟩
abbrev main_cst_43 : Ref sig .tc := ⟨.hbm, 143, rfl⟩
abbrev main_call23_v0 : Ref sig .tc := ⟨.hbm, 144, rfl⟩
abbrev main_call23_v1 : Ref sig .tc := ⟨.hbm, 145, rfl⟩
abbrev main_v67 : Ref sig .tc := ⟨.hbm, 146, rfl⟩
abbrev main_v68 : Ref sig .tc := ⟨.hbm, 147, rfl⟩
abbrev main_cst_44 : Ref sig .tc := ⟨.hbm, 148, rfl⟩
abbrev main_cst_45 : Ref sig .tc := ⟨.hbm, 149, rfl⟩
abbrev main_call25_v0 : Ref sig .tc := ⟨.hbm, 150, rfl⟩
abbrev main_call25_v1 : Ref sig .tc := ⟨.hbm, 151, rfl⟩
abbrev main_v69 : Ref sig .tc := ⟨.hbm, 152, rfl⟩
abbrev main_cst_46 : Ref sig .tc := ⟨.hbm, 153, rfl⟩
abbrev main_cst_47 : Ref sig .tc := ⟨.hbm, 154, rfl⟩
abbrev main_call26_v0 : Ref sig .tc := ⟨.hbm, 155, rfl⟩
abbrev main_call26_v1 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_cst_48 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩

abbrev nD : Nat := 1
abbrev τ : Topo := Topo.v7x

variable {F : FTy → Type} [FloatOps F]
-- ==== Proof.Decode.lean ====
/-
  What the kernel's decode computes, named: the weight block of 64 rows that one block of 32 packed rows decodes to, and
  the 2048-row weight chunk of one trip of the chunk loop — for any float type, before any arithmetic is read.
-/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Row `j` of a 32-row tile of scales is a slice of it. -/
theorem slices_row (j : Fin 32) : S32x512.Slices ![j.val, 0] S1x512 := by
  revert j; decide

/-- The sixteen table codes, scaled: entry `r` is the code `r` times the block's scale. -/
def scaledTable (tab : FVec F S16x512 .bf16) (am : FVec F S1x512 .f32) : FVec F S16x512 .bf16 :=
  mulf tab (truncf .bf16 (broadcastTo S16x512 (shapeCast S1x512 am shapeCasts_S1x512_S1x512) broadcasts_S1x512_S16x512) bitsLt_bf16_f32)

/-- The masked nibbles of four bytes per word, each nibble doubled. -/
def nibLo (sh : IVec S8x512 32) : IVec S8x512 32 := andi sh (broadcast S8x512 505290270#32)

/-- The doubled nibbles, plus one. -/
def nibHi (sh : IVec S8x512 32) : IVec S8x512 32 := ori (nibLo sh) (broadcast S8x512 16843009#32)

/-- The bytes `2n, 2n+1` of the even packed rows. -/
def evenBytes (sh : IVec S8x512 32) : IVec S32x512 8 :=
  bitcast S32x512 8 (ori (andi (nibLo sh) (broadcast S8x512 16711935#32))
    (shli (andi (nibHi sh) (broadcast S8x512 16711935#32)) (broadcast S8x512 8#32))) bitcasts_S8x512_w32_S32x512_w8

/-- The bytes `2n, 2n+1` of the odd packed rows (`odd` selects the odd byte rows). -/
def oddBytes (odd : IVec S32x512 1) (sh : IVec S8x512 32) : IVec S32x512 8 :=
  select odd (bitcast S32x512 8 (nibHi sh) bitcasts_S8x512_w32_S32x512_w8)
    (bitcast S32x512 8 (shrui (nibLo sh) (broadcast S8x512 8#32)) bitcasts_S8x512_w32_S32x512_w8)

/-- The table row each byte pair asks for: its sixteen bits, shifted right by one and masked. -/
def rowsOf (b : IVec S32x512 8) : IVec S16x512 32 :=
  andi (shrsi (extsi 32 (bitcast S16x512 16 (bitcast S8x512 32 b bitcasts_S32x512_w8_S8x512_w32) bitcasts_S8x512_w32_S16x512_w16) natLt_16_32)
    (broadcast S16x512 1#32)) (broadcast S16x512 15#32)

/-- The table gathered by the rows the byte pairs ask for. -/
def lookup (tab : FVec F S16x512 .bf16) (b : IVec S32x512 8) : FVec F S16x512 .bf16 :=
  dynamicGather 0 tab (shapeCast S16x512 (shapeCast S16x512x1 (rowsOf b) shapeCasts_S16x512_S16x512x1) shapeCasts_S16x512x1_S16x512)

/-- The 64 weight rows of one block of 32 packed rows: low nibbles of the even rows, of the odd rows, then high nibbles
    of the even rows, of the odd rows. -/
def decodeBlock (tab : FVec F S16x512 .bf16) (odd : IVec S32x512 1) (am : FVec F S1x512 .f32) (w : Vec F S32x512 .i8) : FVec F S64x512 .bf16 :=
  concatenate S64x512 0
    [⟨S16x512, lookup (scaledTable tab am) (evenBytes (shli (bitcast S8x512 32 w bitcasts_S32x512_w8_S8x512_w32) (broadcast S8x512 1#32)))⟩,
     ⟨S16x512, lookup (scaledTable tab am) (oddBytes odd (shli (bitcast S8x512 32 w bitcasts_S32x512_w8_S8x512_w32) (broadcast S8x512 1#32)))⟩,
     ⟨S16x512, lookup (scaledTable tab am) (evenBytes (shrui (bitcast S8x512 32 w bitcasts_S32x512_w8_S8x512_w32) (broadcast S8x512 3#32)))⟩,
     ⟨S16x512, lookup (scaledTable tab am) (oddBytes odd (shrui (bitcast S8x512 32 w bitcasts_S32x512_w8_S8x512_w32) (broadcast S8x512 3#32)))⟩]
    concatenates_S16x512_S16x512_S16x512_S16x512_S64x512_d0

/-- The 32 packed rows of block `j` of chunk `k`. -/
def packedRows (W : Vec F S8192x512 .i8) (k : Fin k0_t2_loop.trips) (j : Fin 32) : Vec F S32x512 .i8 :=
  View.ld W (Rect.unit (s := S8192x512) (k0_off3 k (BitVec.ofNat 32 (32 * j.val))) S32x512.size (k0_off3_inb k j))

/-- The 32 rows of scales of chunk `k`. -/
def scaleRows (A : Vec F S256x512 .f32) (k : Fin k0_t2_loop.trips) : Vec F S32x512 .f32 :=
  View.ld A (Rect.unit (s := S256x512) (k0_off2 k) S32x512.size (k0_off2_inb k))

/-- The weight rows of block `j` of chunk `k`. -/
def blockW (tab : FVec F S16x512 .bf16) (odd : IVec S32x512 1) (A : Vec F S256x512 .f32) (W : Vec F S8192x512 .i8)
    (k : Fin k0_t2_loop.trips) (j : Fin 32) : FVec F S64x512 .bf16 :=
  decodeBlock tab odd (extractStridedSlice S1x512 ![j.val, 0] (scaleRows A k) (slices_row j)) (packedRows W k j)

/-- Thirty-two blocks of 64 rows stack to 2048 rows. -/
theorem concatenates_blocks (f : Fin 32 → (S64x512.Idx → F .bf16)) :
    Shape.Concatenates ((List.ofFn fun j : Fin 32 => (⟨S64x512, f j⟩ : (s : Shape) × (s.Idx → F .bf16))).map (·.1)) S2048x512 0 := by
  have h : ((List.ofFn fun j : Fin 32 => (⟨S64x512, f j⟩ : (s : Shape) × (s.Idx → F .bf16))).map (·.1)) = List.replicate 32 S64x512 := by
    rw [List.map_ofFn]; rfl
  rw [h]; decide +kernel

/-- The 2048 weight rows of chunk `k`: its thirty-two blocks, stacked. -/
def chunkW (tab : FVec F S16x512 .bf16) (odd : IVec S32x512 1) (A : Vec F S256x512 .f32) (W : Vec F S8192x512 .i8)
    (k : Fin k0_t2_loop.trips) : FVec F S2048x512 .bf16 :=
  concatenate S2048x512 0 (List.ofFn fun j : Fin 32 => ⟨S64x512, blockW tab odd A W k j⟩) (concatenates_blocks _)

end Cert.KernelIdeal.Hand
end
-- ==== Proof.Trips.lean ====
/-
  One trip of each of the kernel's two loops, as a value: the lane-permutation loop writes one permuted block of 128
  lanes, the chunk loop replaces the accumulator by itself plus one chunk's product.
-/
module

public import proofs.«01_k».proof.Proof.Decode
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One trip of the permutation loop writes the block of 128 lanes it read, permuted. -/
theorem trip1_eq (𝒱 : Variants) (c : Dev nD) (bd : Option 𝒱.V) (i : grid0.Coords) (arg1 : Memref sig .tc .vmem S256x16384 .bf16) (harg1 : arg1.IsWhole) (arg2 : Memref sig .tc .vmem S8192x512 .i8) (harg2 : arg2.IsWhole) (arg3 : Memref sig .tc .vmem S256x512 .f32) (harg3 : arg3.IsWhole) (arg4 : Memref sig .tc .vmem S16384x16 .bf16) (harg4 : arg4.IsWhole) (arg5 : Memref sig .tc .vmem S16x512 .bf16) (harg5 : arg5.IsWhole) (arg6 : Memref sig .tc .vmem S256x512 .bf16) (harg6 : arg6.IsWhole) (arg7 : Memref sig .tc .vmem S256x16384 .bf16) (harg7 : arg7.IsWhole) (arg8 : Memref sig .tc .vmem S256x16 .bf16) (harg8 : arg8.IsWhole) (arg9 : Memref sig .tc .vmem S256x512 .f32) (harg9 : arg9.IsWhole) (k0_h1 : k0_cond1 i = 1#1) (X_arg1 : BufTy.Contents (Elt F) arg1.view.ty) (k : Fin k0_t1_loop.trips) :
    tripL_k0_t1 (F := F) 𝒱 c bd i arg1 harg1 arg2 harg2 arg3 harg3 arg4 harg4 arg5 harg5 arg6 harg6 arg7 harg7 arg8 harg8 arg9 harg9 k0_h1 X_arg1 k
      = [⟨Rect.unit (s := S256x16384) (k0_off1 k) S256x128.size (k0_off1_inb i k k0_h1), k0_pay5 (View.ld (arg1.view.read (Elt F) X_arg1) (Rect.unit (s := S256x16384) (k0_off1 k) S256x128.size (k0_off1_inb i k k0_h1)))⟩] := by
  unfold tripL_k0_t1 trip_k0_t1
  rfl

/-- One trip of the chunk loop replaces the accumulator by the accumulator plus the product of the chunk of the
    permuted activations and the decoded chunk of weights. -/
theorem trip2_eq (𝒱 : Variants) (c : Dev nD) (bd : Option 𝒱.V) (i : grid0.Coords) (arg1 : Memref sig .tc .vmem S256x16384 .bf16) (harg1 : arg1.IsWhole) (arg2 : Memref sig .tc .vmem S8192x512 .i8) (harg2 : arg2.IsWhole) (arg3 : Memref sig .tc .vmem S256x512 .f32) (harg3 : arg3.IsWhole) (arg4 : Memref sig .tc .vmem S16384x16 .bf16) (harg4 : arg4.IsWhole) (arg5 : Memref sig .tc .vmem S16x512 .bf16) (harg5 : arg5.IsWhole) (arg6 : Memref sig .tc .vmem S256x512 .bf16) (harg6 : arg6.IsWhole) (arg7 : Memref sig .tc .vmem S256x16384 .bf16) (harg7 : arg7.IsWhole) (arg8 : Memref sig .tc .vmem S256x16 .bf16) (harg8 : arg8.IsWhole) (arg9 : Memref sig .tc .vmem S256x512 .f32) (harg9 : arg9.IsWhole) (v65 : FVec F S16x512 .bf16) (v70 : IVec S32x512 1) (X_arg2 : BufTy.Contents (Elt F) arg2.view.ty) (X_arg3 : BufTy.Contents (Elt F) arg3.view.ty) (X_arg7 : BufTy.Contents (Elt F) arg7.view.ty) (k : Fin k0_t2_loop.trips)
    (f : BufTy.Contents (Elt F) arg9.view.ty) : tripL_k0_t2 (F := F) 𝒱 c bd i arg1 harg1 arg2 harg2 arg3 harg3 arg4 harg4 arg5 harg5 arg6 harg6 arg7 harg7 arg8 harg8 arg9 harg9 v65 v70 X_arg2 X_arg3 X_arg7 k f
      = [⟨Rect.unit (s := S256x512) ![0, 0] S256x512.size inb_S256x512_S256x512_0_0,
          k0_pay3 (chunkW v65 v70 (arg3.view.read (Elt F) X_arg3) (arg2.view.read (Elt F) X_arg2) k)
            (View.ld (arg9.view.read (Elt F) f) (Rect.unit (s := S256x512) ![0, 0] S256x512.size inb_S256x512_S256x512_0_0))
            (View.ld (arg7.view.read (Elt F) X_arg7) (Rect.unit (s := S256x16384) (k0_off4 k) S256x2048.size (k0_off4_inb k)))⟩] := by
  unfold tripL_k0_t2 trip_k0_t2
  rfl

end Cert.KernelIdeal.Hand
end
-- ==== Proof.Values.lean ====
/-
  What the kernel computes, point by point, as closed definitions (for any float type), and the readings of its two
  loops: the permutation loop leaves the lane-permuted activations, the chunk loop the accumulated chunk products.
-/
module

public import proofs.«01_k».proof.Proof.Trips
public import Idealize.ShloMosaic.Lib.WritesUnit
public import Idealize.ShloMosaic.Lib.VecWindow
public import Idealize.ShloMosaic.Lib.ValueIdxCore
public import Idealize.ShloMosaic.Lib.Pipeline.ValueKit.Tiles
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The zero offsets of a rank-2 access. -/
theorem zeroOff : (![0, 0] : Fin 2 → ℕ) = fun _ => 0 := by decide

/-- A tile loaded at offsets equal to `off'` reads the array at `off'` plus the position. -/
theorem ld_at {S : Shape} {e : EltTy} (X : S.Idx → Elt F e) {off off' : Fin S.rank → ℕ} (size : Fin S.rank → ℕ) (inb) (h : off = off')
    (x : (Rect.unit off size inb).shape.Idx) (i : S.Idx) (hi : ∀ a, (i a).val = off' a + (x a).val) : View.ld X (Rect.unit off size inb) x = X i := by
  subst h
  exact View.ld_unit_apply_of X off size inb x i hi

theorem trips1 : k0_t1_loop.trips = 128 := by decide +kernel
theorem trips2 : k0_t2_loop.trips = 8 := by decide +kernel

/-- The kernel's table of the sixteen codes. -/
def codeTable : FVec F S16x512 .bf16 := k0_pay383 (iota .tc S16x512 32 [0] iota_S16x512_d0_w32) (k0_pay381 (F := F)) k0_pay382

/-- The block of 128 lanes starting at lane `128 * b`. -/
def laneBlock (X : Vec F S256x16384 .bf16) (b : Fin k0_t1_loop.trips) : Vec F S256x128 .bf16 := fun j =>
  X (ValueIdx.ix2 (j 0) ⟨128 * b.val + (j 1).val, by have := b.isLt; have := (j 1).isLt; have := trips1; simp at *; omega⟩)

/-- The activations, each block of 128 lanes permuted. -/
def permuted (X : Vec F S256x16384 .bf16) : Vec F S256x16384 .bf16 := fun y =>
  k0_pay5 (laneBlock X ⟨(y 1).val / 128, by have := (y 1).isLt; have := trips1; simp at *; omega⟩)
    (ValueIdx.ix2 (y 0) ⟨(y 1).val % 128, Nat.mod_lt _ (by decide)⟩)

/-- Twice the activations' product with the first low-rank factor, rounded. -/
def hidden (X : Vec F S256x16384 .bf16) (LA : Vec F S16384x16 .bf16) : Vec F S256x16 .bf16 := k0_pay380 (k0_pay6 X LA)

/-- The 2048 columns of the permuted activations that chunk `k` multiplies. -/
def chunkX (XP : Vec F S256x16384 .bf16) (k : Fin k0_t2_loop.trips) : Vec F S256x2048 .bf16 :=
  View.ld XP (Rect.unit (s := S256x16384) (k0_off4 k) S256x2048.size (k0_off4_inb k))

/-- The accumulator after `k` chunks, from the low-rank product. -/
def accum (tab : FVec F S16x512 .bf16) (odd : IVec S32x512 1) (A : Vec F S256x512 .f32) (W : Vec F S8192x512 .i8)
    (XP : Vec F S256x16384 .bf16) (a0 : Vec F S256x512 .f32) : ℕ → Vec F S256x512 .f32
  | 0 => a0
  | k + 1 => if h : k < k0_t2_loop.trips then
      k0_pay3 (chunkW tab odd A W ⟨k, h⟩) (accum tab odd A W XP a0 k) (chunkX XP ⟨k, h⟩)
    else accum tab odd A W XP a0 k

/-- A column tile of the result: the low-rank product plus every chunk's product, rounded. -/
def tileOut (A : Vec F S256x512 .f32) (W : Vec F S8192x512 .i8) (XP : Vec F S256x16384 .bf16) (Hd : Vec F S256x16 .bf16)
    (LB : Vec F S16x512 .bf16) : Vec F S256x512 .bf16 :=
  k0_pay4 (accum codeTable k0_pay384 A W XP (k0_pay1 (k0_pay385 Hd LB)) k0_t2_loop.trips)

/-- After `k` trips of the chunk loop the accumulator reads as `accum` says. -/
theorem read_acc (𝒱 : Variants) (c : Dev nD) (bd : Option 𝒱.V) (i : grid0.Coords) (arg1 : Memref sig .tc .vmem S256x16384 .bf16) (harg1 : arg1.IsWhole) (arg2 : Memref sig .tc .vmem S8192x512 .i8) (harg2 : arg2.IsWhole) (arg3 : Memref sig .tc .vmem S256x512 .f32) (harg3 : arg3.IsWhole) (arg4 : Memref sig .tc .vmem S16384x16 .bf16) (harg4 : arg4.IsWhole) (arg5 : Memref sig .tc .vmem S16x512 .bf16) (harg5 : arg5.IsWhole) (arg6 : Memref sig .tc .vmem S256x512 .bf16) (harg6 : arg6.IsWhole) (arg7 : Memref sig .tc .vmem S256x16384 .bf16) (harg7 : arg7.IsWhole) (arg8 : Memref sig .tc .vmem S256x16 .bf16) (harg8 : arg8.IsWhole) (arg9 : Memref sig .tc .vmem S256x512 .f32) (harg9 : arg9.IsWhole) (v65 : FVec F S16x512 .bf16) (v70 : IVec S32x512 1) (X_arg2 : BufTy.Contents (Elt F) arg2.view.ty) (X_arg3 : BufTy.Contents (Elt F) arg3.view.ty) (X_arg7 : BufTy.Contents (Elt F) arg7.view.ty) (G : BufTy.Contents (Elt F) arg9.view.ty) :
    ∀ k : ℕ, k ≤ k0_t2_loop.trips → arg9.view.read (Elt F) (arg9.view.writes (Elt F) G (pb_k0_t2 (F := F) 𝒱 c bd i arg1 harg1 arg2 harg2 arg3 harg3 arg4 harg4 arg5 harg5 arg6 harg6 arg7 harg7 arg8 harg8 arg9 harg9 v65 v70 X_arg2 X_arg3 X_arg7 G k))
      = accum v65 v70 (arg3.view.read (Elt F) X_arg3) (arg2.view.read (Elt F) X_arg2) (arg7.view.read (Elt F) X_arg7) (arg9.view.read (Elt F) G) k
  | 0, _ => by rw [pb_k0_t2.eq_1]; rfl
  | k + 1, hk => by
    have ih := read_acc 𝒱 c bd i arg1 harg1 arg2 harg2 arg3 harg3 arg4 harg4 arg5 harg5 arg6 harg6 arg7 harg7 arg8 harg8 arg9 harg9 v65 v70 X_arg2 X_arg3 X_arg7 G k (Nat.le_of_succ_le hk)
    have hs := pb_k0_t2_succ (F := F) 𝒱 c bd i arg1 harg1 arg2 harg2 arg3 harg3 arg4 harg4 arg5 harg5 arg6 harg6 arg7 harg7 arg8 harg8 arg9 harg9 v65 v70 X_arg2 X_arg3 X_arg7 G ⟨k, hk⟩
    dsimp only at hs
    rw [hs, trip2_eq, List.singleton_append, View.read_writes_full, ih, View.ld_unit_zero zeroOff]
    rw [accum, dif_pos (show k < _ from hk)]
    rfl

/-- After `k` trips of the permutation loop the first `128 * k` lanes read as permuted. -/
theorem read_perm (𝒱 : Variants) (c : Dev nD) (bd : Option 𝒱.V) (i : grid0.Coords) (arg1 : Memref sig .tc .vmem S256x16384 .bf16) (harg1 : arg1.IsWhole) (arg2 : Memref sig .tc .vmem S8192x512 .i8) (harg2 : arg2.IsWhole) (arg3 : Memref sig .tc .vmem S256x512 .f32) (harg3 : arg3.IsWhole) (arg4 : Memref sig .tc .vmem S16384x16 .bf16) (harg4 : arg4.IsWhole) (arg5 : Memref sig .tc .vmem S16x512 .bf16) (harg5 : arg5.IsWhole) (arg6 : Memref sig .tc .vmem S256x512 .bf16) (harg6 : arg6.IsWhole) (arg7 : Memref sig .tc .vmem S256x16384 .bf16) (harg7 : arg7.IsWhole) (arg8 : Memref sig .tc .vmem S256x16 .bf16) (harg8 : arg8.IsWhole) (arg9 : Memref sig .tc .vmem S256x512 .f32) (harg9 : arg9.IsWhole) (k0_h1 : k0_cond1 i = 1#1) (X_arg1 : BufTy.Contents (Elt F) arg1.view.ty) (G : BufTy.Contents (Elt F) arg7.view.ty) :
    ∀ k : ℕ, k ≤ k0_t1_loop.trips → ∀ y : S256x16384.Idx, (y 1).val < 128 * k → arg7.view.read (Elt F) (arg7.view.writes (Elt F) G (pb_k0_t1 (F := F) 𝒱 c bd i arg1 harg1 arg2 harg2 arg3 harg3 arg4 harg4 arg5 harg5 arg6 harg6 arg7 harg7 arg8 harg8 arg9 harg9 k0_h1 X_arg1 k)) y
      = permuted (arg1.view.read (Elt F) X_arg1) y
  | 0, _, y, hy => absurd hy (by omega)
  | k + 1, hk, y, hy => by
    have ih := read_perm 𝒱 c bd i arg1 harg1 arg2 harg2 arg3 harg3 arg4 harg4 arg5 harg5 arg6 harg6 arg7 harg7 arg8 harg8 arg9 harg9 k0_h1 X_arg1 G k (Nat.le_of_succ_le hk) y
    have hs := pb_k0_t1_succ (F := F) 𝒱 c bd i arg1 harg1 arg2 harg2 arg3 harg3 arg4 harg4 arg5 harg5 arg6 harg6 arg7 harg7 arg8 harg8 arg9 harg9 k0_h1 X_arg1 ⟨k, hk⟩
    dsimp only at hs
    rw [hs, trip1_eq, List.singleton_append]
    by_cases hlt : (y 1).val < 128 * k
    · rw [View.read_writes_cons_unit_of_not_mem _ _ _ _ _ _ (k0_off1_eq ⟨k, hk⟩) 1 (Or.inl hlt)]
      exact ih hlt
    · have hq : (y 1).val / 128 = k := by omega
      refine (View.read_writes_cons_unit_of_mem (s := S256x16384) (size := S256x128.size) _ _ (k0_off1_inb i ⟨k, hk⟩ k0_h1) _ _ y
        (ValueIdx.ix2 (y 0) ⟨(y 1).val % 128, Nat.mod_lt _ (by decide)⟩) (k0_off1_eq ⟨k, hk⟩) (Fin.forall_fin_two.mpr ⟨(Nat.zero_add _).symm, ?_⟩)).trans ?_
      · show (y 1).val = 128 * k + (y 1).val % 128
        omega
      unfold permuted
      refine congrFun (congrArg k0_pay5 ?_) _
      funext j
      have hb : (⟨(y 1).val / 128, by have := (y 1).isLt; have := trips1; simp at *; omega⟩ : Fin k0_t1_loop.trips) = ⟨k, hk⟩ := Fin.ext hq
      rw [hb]
      exact ld_at _ _ _ (k0_off1_eq ⟨k, hk⟩) _ _ (Fin.forall_fin_two.mpr ⟨(Nat.zero_add _).symm, rfl⟩)

/-- After the whole permutation loop the buffer reads as the permuted activations. -/
theorem read_perm_all (𝒱 : Variants) (c : Dev nD) (bd : Option 𝒱.V) (i : grid0.Coords) (arg1 : Memref sig .tc .vmem S256x16384 .bf16) (harg1 : arg1.IsWhole) (arg2 : Memref sig .tc .vmem S8192x512 .i8) (harg2 : arg2.IsWhole) (arg3 : Memref sig .tc .vmem S256x512 .f32) (harg3 : arg3.IsWhole) (arg4 : Memref sig .tc .vmem S16384x16 .bf16) (harg4 : arg4.IsWhole) (arg5 : Memref sig .tc .vmem S16x512 .bf16) (harg5 : arg5.IsWhole) (arg6 : Memref sig .tc .vmem S256x512 .bf16) (harg6 : arg6.IsWhole) (arg7 : Memref sig .tc .vmem S256x16384 .bf16) (harg7 : arg7.IsWhole) (arg8 : Memref sig .tc .vmem S256x16 .bf16) (harg8 : arg8.IsWhole) (arg9 : Memref sig .tc .vmem S256x512 .f32) (harg9 : arg9.IsWhole) (k0_h1 : k0_cond1 i = 1#1) (X_arg1 : BufTy.Contents (Elt F) arg1.view.ty) (G : BufTy.Contents (Elt F) arg7.view.ty) :
    arg7.view.read (Elt F) (arg7.view.writes (Elt F) G (pb_k0_t1 (F := F) 𝒱 c bd i arg1 harg1 arg2 harg2 arg3 harg3 arg4 harg4 arg5 harg5 arg6 harg6 arg7 harg7 arg8 harg8 arg9 harg9 k0_h1 X_arg1 k0_t1_loop.trips))
      = permuted (arg1.view.read (Elt F) X_arg1) := by
  funext y
  refine read_perm 𝒱 c bd i arg1 harg1 arg2 harg2 arg3 harg3 arg4 harg4 arg5 harg5 arg6 harg6 arg7 harg7 arg8 harg8 arg9 harg9 k0_h1 X_arg1 G _ le_rfl y ?_
  have := (y 1).isLt
  rw [trips1]
  exact this

/-- The accumulator, filled with `w` and then run through the chunk loop, loads as `accum` of all trips. -/
theorem readCov_acc (𝒱 : Variants) (c : Dev nD) (bd : Option 𝒱.V) (i : grid0.Coords) (arg1 : Memref sig .tc .vmem S256x16384 .bf16) (harg1 : arg1.IsWhole) (arg2 : Memref sig .tc .vmem S8192x512 .i8) (harg2 : arg2.IsWhole) (arg3 : Memref sig .tc .vmem S256x512 .f32) (harg3 : arg3.IsWhole) (arg4 : Memref sig .tc .vmem S16384x16 .bf16) (harg4 : arg4.IsWhole) (arg5 : Memref sig .tc .vmem S16x512 .bf16) (harg5 : arg5.IsWhole) (arg6 : Memref sig .tc .vmem S256x512 .bf16) (harg6 : arg6.IsWhole) (arg7 : Memref sig .tc .vmem S256x16384 .bf16) (harg7 : arg7.IsWhole) (arg8 : Memref sig .tc .vmem S256x16 .bf16) (harg8 : arg8.IsWhole) (arg9 : Memref sig .tc .vmem S256x512 .f32) (harg9 : arg9.IsWhole) (v65 : FVec F S16x512 .bf16) (v70 : IVec S32x512 1) (X_arg2 : BufTy.Contents (Elt F) arg2.view.ty) (X_arg3 : BufTy.Contents (Elt F) arg3.view.ty) (X_arg7 : BufTy.Contents (Elt F) arg7.view.ty) (w : S256x512.Idx → Elt F .f32) :
    arg9.view.readCov (pb_k0_t2 (F := F) 𝒱 c bd i arg1 harg1 arg2 harg2 arg3 harg3 arg4 harg4 arg5 harg5 arg6 harg6 arg7 harg7 arg8 harg8 arg9 harg9 v65 v70 X_arg2 X_arg3 X_arg7 (arg9.view.writes (Elt F) arg9.view.junk [⟨Rect.unit (s := S256x512) ![0, 0] ![256, 512] inb_S256x512_S256x512_0_0, w⟩]) k0_t2_loop.trips
        ++ [⟨Rect.unit (s := S256x512) ![0, 0] ![256, 512] inb_S256x512_S256x512_0_0, w⟩]) (Rect.unit (s := S256x512) ![0, 0] ![256, 512] inb_S256x512_S256x512_0_0).toLoadRect
      = accum v65 v70 (arg3.view.read (Elt F) X_arg3) (arg2.view.read (Elt F) X_arg2) (arg7.view.read (Elt F) X_arg7) w k0_t2_loop.trips := by
  unfold View.readCov
  rw [View.writes_append]
  refine (View.readAt_full (s := S256x512) _ _ inb_S256x512_S256x512_0_0).trans ?_
  rw [read_acc 𝒱 c bd i arg1 harg1 arg2 harg2 arg3 harg3 arg4 harg4 arg5 harg5 arg6 harg6 arg7 harg7 arg8 harg8 arg9 harg9 _ _ _ _ _ _ _ le_rfl]
  exact congrArg (fun z => accum _ _ _ _ _ z _) (View.read_writes_full (s := S256x512) _ _ inb_S256x512_S256x512_0_0 w [])

end Cert.KernelIdeal.Hand
end
-- ==== Proof.Runs.lean ====
/-
  The kernel body run at one grid point, with every buffer's final contents named: at the first point it also writes the
  permuted activations and the hidden product, later it reads them.
-/
module

public import proofs.«01_k».proof.Proof.Values
public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The body at the first grid point, from any scratch contents. -/
theorem runA (c : Dev nD) (i : grid0.Coords) (arg1 : Memref sig .tc .vmem S256x16384 .bf16) (harg1 : arg1.IsWhole) (arg2 : Memref sig .tc .vmem S8192x512 .i8) (harg2 : arg2.IsWhole) (arg3 : Memref sig .tc .vmem S256x512 .f32) (harg3 : arg3.IsWhole) (arg4 : Memref sig .tc .vmem S16384x16 .bf16) (harg4 : arg4.IsWhole) (arg5 : Memref sig .tc .vmem S16x512 .bf16) (harg5 : arg5.IsWhole) (arg6 : Memref sig .tc .vmem S256x512 .bf16) (harg6 : arg6.IsWhole) (arg7 : Memref sig .tc .vmem S256x16384 .bf16) (harg7 : arg7.IsWhole) (arg8 : Memref sig .tc .vmem S256x16 .bf16) (harg8 : arg8.IsWhole) (arg9 : Memref sig .tc .vmem S256x512 .f32) (harg9 : arg9.IsWhole) (hc0 : k0_cond1 i = 1#1)
    (x0 : Vec F S256x16384 .bf16) (x1 : Vec F S8192x512 .i8) (x2 : Vec F S256x512 .f32) (x3 : Vec F S16384x16 .bf16) (x4 : Vec F S16x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tileOut x2 x1 (permuted x0) (hidden x0 x3) x4) ∗ owns (c : Thread nD τ) arg7 fullShare (permuted x0) ∗ owns (c : Thread nD τ) arg8 fullShare (hidden x0 x3) ∗ (∃ d, owns (c : Thread nD τ) arg9 fullShare d)) -∗ K ⟨⟩))
      ⊢ wp frame (wpE (defs₀ (F := F)) Variants.none c none) E (cc0_qlora_nf4 i arg1 harg1 arg2 harg2 arg3 harg3 arg4 harg4 arg5 harg5 arg6 harg6 arg7 harg7 arg8 harg8 arg9 harg9) K := by
    simp only [cc0_qlora_nf4_eq_skeleton]; unfold cc0_qlora_nf4_skel
    simp only [k0_part64_eq_skeleton, k0_part1_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; sl_unfold_words
      refine (View.read_writes_full (s := S256x512) _ _ inb_S256x512_S256x512_0_0 _ []).trans ?_
      refine congrArg k0_pay4 ((readCov_acc _ _ _ _ _ _ _ _ _ _ _ _ _ _ _ _ _ _ _ _ _ _ _ _ _ _ _ _).trans ?_)
      rw [hf1, hf2, read_perm_all, hf0, View.readCov_unit_zero _ zeroOff, View.readAt_full, View.readAt_full, View.readAt_full, hf0, hf3, hf4]
      rfl
    isplitl [HS0]
    · iexists _; isplitr; swap; · iexact HS0
      ipureintro; exact (read_perm_all _ _ _ _ _ _ _ _ _ _ _ _ _ _ _ _ _ _ _ _ _ _ _ _ _).trans (congrArg permuted hf0)
    isplitl [HS1]
    · iexists _; isplitr; swap; · iexact HS1
      ipureintro; sl_unfold_words
      rw [View.read_writes_full, View.readAt_full, View.readAt_full, hf0, hf3]
      rfl
    iexists _, _; isplitr; swap; · iexact HS2
    ipureintro; rfl

set_option maxHeartbeats 1000000 in
/-- The body at a later grid point, from the scratch the first point left. -/
theorem runB (c : Dev nD) (i : grid0.Coords) (arg1 : Memref sig .tc .vmem S256x16384 .bf16) (harg1 : arg1.IsWhole) (arg2 : Memref sig .tc .vmem S8192x512 .i8) (harg2 : arg2.IsWhole) (arg3 : Memref sig .tc .vmem S256x512 .f32) (harg3 : arg3.IsWhole) (arg4 : Memref sig .tc .vmem S16384x16 .bf16) (harg4 : arg4.IsWhole) (arg5 : Memref sig .tc .vmem S16x512 .bf16) (harg5 : arg5.IsWhole) (arg6 : Memref sig .tc .vmem S256x512 .bf16) (harg6 : arg6.IsWhole) (arg7 : Memref sig .tc .vmem S256x16384 .bf16) (harg7 : arg7.IsWhole) (arg8 : Memref sig .tc .vmem S256x16 .bf16) (harg8 : arg8.IsWhole) (arg9 : Memref sig .tc .vmem S256x512 .f32) (harg9 : arg9.IsWhole) (hc0 : ¬k0_cond1 i = 1#1)
    (x0 : Vec F S256x16384 .bf16) (x1 : Vec F S8192x512 .i8) (x2 : Vec F S256x512 .f32) (x3 : Vec F S16384x16 .bf16) (x4 : Vec F S16x512 .bf16) (xs0 : Vec F S256x16384 .bf16) (xs1 : Vec F S256x16 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tileOut x2 x1 xs0 xs1 x4) ∗ owns (c : Thread nD τ) arg7 fullShare xs0 ∗ owns (c : Thread nD τ) arg8 fullShare xs1 ∗ (∃ d, owns (c : Thread nD τ) arg9 fullShare d)) -∗ K ⟨⟩))
      ⊢ wp frame (wpE (defs₀ (F := F)) Variants.none c none) E (cc0_qlora_nf4 i arg1 harg1 arg2 harg2 arg3 harg3 arg4 harg4 arg5 harg5 arg6 harg6 arg7 harg7 arg8 harg8 arg9 harg9) K := by
    simp only [cc0_qlora_nf4_eq_skeleton]; unfold cc0_qlora_nf4_skel
    simp only [k0_part64_eq_skeleton, k0_part1_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0; obtain rfl := harg8.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; sl_unfold_words
      refine (View.read_writes_full (s := S256x512) _ _ inb_S256x512_S256x512_0_0 _ []).trans ?_
      refine congrArg k0_pay4 ((readCov_acc _ _ _ _ _ _ _ _ _ _ _ _ _ _ _ _ _ _ _ _ _ _ _ _ _ _ _ _).trans ?_)
      rw [hf1, hf2, hfs0, View.readAt_full, View.readAt_full, hfs1, hf4]
      rfl
    isplitl [HS0]
    · iexists _; isplitr; · ipureintro; exact harg7.read_unread _
      iexact HS0
    isplitl [HS1]
    · iexists _; isplitr; · ipureintro; exact harg8.read_unread _
      iexact HS1
    iexists _, _; isplitr; swap; · iexact HS2
    ipureintro; rfl

end Cert.KernelIdeal.Hand
end
-- ==== Proof.FrameI.lean ====
/-
  The whole program run: every grid point's buffers named, hence the result array's final contents, and that the
  arguments are unchanged and every semaphore ends at zero.
-/
module

public import proofs.«01_k».proof.Proof.Runs
public import proofs.«01_k».proof.Proof.Gen.KernelIdeal.Frame
public import Idealize.ShloMosaic.Lib.Claim
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The body's condition holds at the first grid point only. -/
theorem cond_iff : ∀ t : Fin cfg0.N, k0_cond1 (grid0.coords t) = 1#1 ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [k0_cond1, e0]
    word_cmp
   : ∀ t : Fin grid0.N, k0_cond1 (grid0.coords t) = 1#1 ↔ t.val % 10 = 0)

abbrev ms_0 (t : Fin cfg0.N) : Memref sig .tc .vmem S256x16384 .bf16 := win0_0.stage (cfg0.slots t 0)
abbrev ms_1 (t : Fin cfg0.N) : Memref sig .tc .vmem S8192x512 .i8 := win0_1.stage (cfg0.slots t 1)
abbrev ms_2 (t : Fin cfg0.N) : Memref sig .tc .vmem S256x512 .f32 := win0_2.stage (cfg0.slots t 2)
abbrev ms_3 (t : Fin cfg0.N) : Memref sig .tc .vmem S16384x16 .bf16 := win0_3.stage (cfg0.slots t 3)
abbrev ms_4 (t : Fin cfg0.N) : Memref sig .tc .vmem S16x512 .bf16 := win0_4.stage (cfg0.slots t 4)
abbrev ms_5 (t : Fin cfg0.N) : Memref sig .tc .vmem S256x512 .bf16 := win0_5.stage (cfg0.slots t 5)
abbrev scM_0 : Memref sig .tc .vmem S256x16384 .bf16 := Memref.whole cc0_scratch0
abbrev scM_1 : Memref sig .tc .vmem S256x16 .bf16 := Memref.whole cc0_scratch1
abbrev scM_2 : Memref sig .tc .vmem S256x512 .f32 := Memref.whole cc0_scratch2

/-- The first grid point. -/
def t0 : Fin cfg0.N := ⟨0, by rw [show cfg0.N = 10 from N_0]; decide⟩

/-- The permuted activations the first point writes. -/
def XP (c : Dev nD) : Vec F S256x16384 .bf16 := permuted (iblk m c 0 t0)
/-- The hidden product the first point writes. -/
def HD (c : Dev nD) : Vec F S256x16 .bf16 := hidden (iblk m c 0 t0) (iblk m c 3 t0)
/-- The column tile of the result written at point `t`. -/
def tileAt (c : Dev nD) (t : Fin cfg0.N) : Vec F S256x512 .bf16 :=
  tileOut (iblk m c 2 t) (iblk m c 1 t) (XP m c) (HD m c) (iblk m c 4 t)

/-- The pipeline's invariant with the scratch buffers owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d)) ∗ (∃ r, prngReg c r)) := by
  unfold Pipeline.ΦA; rw [scopedRest0_eq]; simp only [scM_0, scM_1, scM_2, owns_whole]; try rfl

/-- The scratch before point `n`: anything at first, then what the first point wrote. -/
def PhiS (c : Dev nD) : ℕ → sProp 𝕄
  | 0 => Pipeline.ΦA spec0 c
  | _ + 1 => iprop(iprop(owns (c : Thread nD τ) scM_0 fullShare (XP m c) ∗ owns (c : Thread nD τ) scM_1 fullShare (HD m c) ∗ (∃ d, owns (c : Thread nD τ) scM_2 fullShare d)) ∗ (∃ r, prngReg c r))

theorem PhiS_succ (c : Dev nD) (n : ℕ) :
    PhiS m c (n + 1) = iprop(iprop(owns (c : Thread nD τ) scM_0 fullShare (XP m c) ∗ owns (c : Thread nD τ) scM_1 fullShare (HD m c) ∗ (∃ d, owns (c : Thread nD τ) scM_2 fullShare d)) ∗ (∃ r, prngReg c r)) := rfl

theorem PhiS_pos (c : Dev nD) (n : ℕ) (hz : n ≠ 0) :
    PhiS m c n = iprop(iprop(owns (c : Thread nD τ) scM_0 fullShare (XP m c) ∗ owns (c : Thread nD τ) scM_1 fullShare (HD m c) ∗ (∃ d, owns (c : Thread nD τ) scM_2 fullShare d)) ∗ (∃ r, prngReg c r)) := by
  cases n with
  | zero => exact absurd rfl hz
  | succ n => rfl

/-- What every window's buffer holds after each point: an input its block, the output the point's tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileAt m c t
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = tileAt m c t := by dsimp only [dats]

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t))

set_option maxHeartbeats 6400000 in
/-- The body takes the buffers from `bodyPre` to `bodyPost` at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = PhiS m c (t.val + 1) from rfl, PhiS_succ]
  have hN : t.val < 10 := lt_of_lt_of_eq t.isLt (show cfg0.N = 10 from N_0)
  unfold tileAt
  by_cases hz : t.val = 0
  · obtain rfl : t = t0 := Fin.ext hz
    rw [PhiS_castSucc m c t0, show PhiS m c t0.val = Pipeline.ΦA spec0 c from rfl, PhiA_eq]
    unfold XP HD
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply (runA c (grid0.coords t0) _ _ _ _ _ _ _ _ _ _ _ _ _ _ _ _ _ _ ((cond_iff t0).mpr rfl) (iblk m c 0 t0) (iblk m c 1 t0) (iblk m c 2 t0) (iblk m c 3 t0) (iblk m c 4 t0) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_castSucc m c t, PhiS_pos m c _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ _ _ (fun h => hz (by have := (cond_iff t).mp h; omega)) (iblk m c 0 t) (iblk m c 1 t) (iblk m c 2 t) (iblk m c 3 t) (iblk m c 4 t) (XP m c) (HD m c) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl, PhiS_pos m c _ (by have : cfg0.N = 10 := N_0; omega), PhiA_eq]
  iintro ⟨⟨HS0, HS1, HS2⟩, Hg⟩
  isplitl [HS0 HS1 HS2]
  · isplitl [HS0]
    · iexists _; iexact HS0
    isplitl [HS1]
    · iexists _; iexact HS1
    iexact HS2
  iexact Hg

set_option backward.isDefEq.respectTransparency.types false in
/-- The program runs to its end, every array at what `dats` says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end, every array at what `dats` says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Hand
end
-- ==== Proof.KernelFrame.lean ====
module

public import proofs.«01_k».proof.Defs
public import proofs.«01_k».proof.Proof.Gen.Kernel
public import proofs.«01_k».proof.Proof.FrameI

@[expose] public section
noncomputable section

/-! The kernel as printed and the kernel read at the ideal instance are one program text, so the
frame proved of the one at every float instance is the frame of the other. -/

namespace Cert.Kernel.Hand

open Idealize.ShloMosaic Idealize.SL.Sem Cert.Kernel

variable {F : FTy → Type} [FloatOps F]

/-- The two programs' kernel functions are the same. -/
theorem body_eq : @cc0_qlora_nf4 F _ _ = @Cert.KernelIdeal.cc0_qlora_nf4 F _ _ := rfl

/-- The two programs' tables of kernel bodies are the same. -/
theorem defs0_eq : (defs₀ (F := F)) = Cert.KernelIdeal.defs₀ (F := F) := by
  unfold defs₀ Cert.KernelIdeal.defs₀
  refine congrArg Defs.onTc ?_
  funext l a
  match l, a with
  | 0, (t, s) => rfl
  | ⟨n + 1, h⟩, _ => exact absurd h (Nat.not_lt.2 (Nat.le_add_left _ _))

/-- The two programs' tables of bodies and pipelines are the same. -/
theorem defs_eq : (defs (F := F)) = Cert.KernelIdeal.defs (F := F) :=
  congrArg (Pipeline.defs pcfgs) defs0_eq

/-- The two programs' main functions are the same. -/
theorem main_eq : (main (F := F)) = Cert.KernelIdeal.main (F := F) := rfl

variable (m : (ℓ : Loc nD τ sig) → Buf (Elt F) ℓ) (ρ : Dev nD → PrngReg)

/-- Every run of the kernel as printed terminates with its arguments unchanged and every semaphore
counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  exact Cert.KernelIdeal.Hand.frame m ρ

end Cert.Kernel.Hand
end
-- ==== Proof.Nibbles.lean ====
/-
  Which table row each position of a lookup asks for: position `r` of the even lookup asks for a nibble of packed row
  `2 r` of the block, position `r` of the odd lookup for a nibble of packed row `2 r + 1` — the low nibble when the words
  were shifted left by one, the high nibble when they were shifted right by three.
-/
module

public import proofs.«01_k».proof.Proof.Decode
public import Idealize.ShloMosaic.Lib.BitcastFour
public import Idealize.ShloMosaic.Lib.BitcastPair
public import Idealize.ShloMosaic.Lib.PointwiseCore

@[expose] public section

set_option maxRecDepth 16384

noncomputable section

namespace Cert.KernelIdeal.Hand

open Cert.KernelIdeal Cert.KernelIdeal.Gen
open Idealize.ShloMosaic

/-- A bit of a bit-cast between row-packed widths: bit `q` of row `a` is bit `(a w + q) % v` of the source row
    `(a w + q) / v`. -/
theorem bitcast_bit {v w R r n : ℕ} (x : (⟨2, ![R, n]⟩ : Shape).Idx → BitVec v) (h : (⟨2, ![R, n]⟩ : Shape).Bitcasts v ⟨2, ![r, n]⟩ w)
    (a : Fin r) (l : Fin n) (q : ℕ) (hq : q < w) (hv : 0 < v) (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬(1 + 2 = 2); omega))

/-- A nibble of a byte, as a word: the low one, or the high one. -/
def nibble (hi : Bool) (b : BitVec 8) : BitVec 32 := (b.setWidth 32 >>> (if hi then 4 else 0)) &&& 15#32

theorem nibble_lt (hi : Bool) (b : BitVec 8) : (nibble hi b).toNat < 16 := by
  unfold nibble
  rw [BitVec.toNat_and]
  exact lt_of_le_of_lt Nat.and_le_right (by decide)

/-- Bits of a nibble. -/
theorem nibble_bit (hi : Bool) (b : BitVec 8) (q : ℕ) : (nibble hi b).getLsbD q = (decide (q < 4) && b.getLsbD (q + if hi then 4 else 0)) := by
  unfold nibble
  have h15 : (15#32).getLsbD q = decide (q < 4) := by
    by_cases h : q < 32
    · interval_cases q <;> rfl
    · rw [BitVec.getLsbD_of_ge _ _ (by omega)]; simp; omega
  rw [BitVec.getLsbD_and, h15, BitVec.getLsbD_ushiftRight, BitVec.getLsbD_setWidth, Bool.and_comm]
  by_cases h : q < 4
  · cases hi <;> simp [h, Nat.add_comm] <;> omega
  · simp [h]

/-- The word shifted so that the wanted nibble of every byte sits one bit up. -/
def shifted (hi : Bool) (w : IVec S32x512 8) : IVec S8x512 32 :=
  if hi then shrui (bitcast S8x512 32 w bitcasts_S32x512_w8_S8x512_w32) (broadcast S8x512 3#32)
  else shli (bitcast S8x512 32 w bitcasts_S32x512_w8_S8x512_w32) (broadcast S8x512 1#32)

/-- Bits 1 to 4 of byte `i` of the shifted word are the bits of the nibble of packed row `4 a + i`. -/
theorem shifted_bit (hi : Bool) (w : IVec S32x512 8) (a : Fin 8) (l : Fin 512) (i q : ℕ) (hi4 : i < 4) (hq : q < 4) (p : Fin 32) (hp : p.val = 4 * a.val + i) :
    (shifted hi w (ix2 a l)).getLsbD (8 * i + (q + 1)) = (nibble hi (w (ix2 p l))).getLsbD q := by
  rw [nibble_bit]
  cases hi
  · simp only [shifted, Bool.false_eq_true, if_false]
    show (IntOp.shli .vector (bitcast S8x512 32 w bitcasts_S32x512_w8_S8x512_w32 (ix2 a l)) 1#32).getLsbD _ = _
    simp only [IntOp.shli, BitVec.toNat_ofNat, Nat.reducePow, Nat.reduceMod, Nat.reduceLT, if_true]
    rw [BitVec.shiftLeft_eq', BitVec.getLsbD_shiftLeft]
    simp only [BitVec.toNat_ofNat, Nat.reducePow, Nat.reduceMod]
    have e : 8 * i + (q + 1) - 1 = 8 * i + q := by omega
    rw [e, bitcast_bit w _ a l (8 * i + q) (by omega) (by decide) p (by omega)]
    have e2 : (a.val * 32 + (8 * i + q)) % 8 = q := by omega
    rw [e2]
    have h1 : 8 * i + (q + 1) < 32 := by omega
    have h2 : ¬ 8 * i + (q + 1) < 1 := by omega
    simp [h1, h2, hq]
  · simp only [shifted, if_true]
    show (IntOp.shrui .vector (bitcast S8x512 32 w bitcasts_S32x512_w8_S8x512_w32 (ix2 a l)) 3#32).getLsbD _ = _
    simp only [IntOp.shrui, BitVec.toNat_ofNat, Nat.reducePow, Nat.reduceMod, Nat.reduceLT, if_true]
    rw [BitVec.ushiftRight_eq', BitVec.getLsbD_ushiftRight]
    simp only [BitVec.toNat_ofNat, Nat.reducePow, Nat.reduceMod]
    have e : 3 + (8 * i + (q + 1)) = 8 * i + q + 4 := by omega
    rw [e, bitcast_bit w _ a l (8 * i + q + 4) (by omega) (by decide) p (by omega)]
    have e2 : (a.val * 32 + (8 * i + q + 4)) % 8 = q + 4 := by omega
    rw [e2]
    simp [hq]

/-- Bit `q + 1` of the repeated byte mask `0x1E`. -/
theorem mask1E (i q : ℕ) (hi : i < 4) (hq : q < 4) : (505290270#32).getLsbD (8 * i + (q + 1)) = true := by
  interval_cases i <;> interval_cases q <;> rfl

/-- Bit `q + 1` of the repeated byte `1` is clear. -/
theorem mask01 (i q : ℕ) (hi : i < 4) (hq : q < 4) : (16843009#32).getLsbD (8 * i + (q + 1)) = false := by
  interval_cases i <;> interval_cases q <;> rfl

/-- The mask of the even bytes at bit `q + 1` of byte `i`. -/
theorem maskEven (i q : ℕ) (hi : i < 4) (hq : q < 4) : (16711935#32).getLsbD (8 * i + (q + 1)) = decide (i % 2 = 0) := by
  interval_cases i <;> interval_cases q <;> rfl

/-- Bits 1 to 4 of every byte pass the nibble mask. -/
theorem nibLo_bit (sh : IVec S8x512 32) (a : Fin 8) (l : Fin 512) (i q : ℕ) (hi : i < 4) (hq : q < 4) :
    (nibLo sh (ix2 a l)).getLsbD (8 * i + (q + 1)) = (sh (ix2 a l)).getLsbD (8 * i + (q + 1)) := by
  show (sh (ix2 a l) &&& 505290270#32).getLsbD _ = _
  rw [BitVec.getLsbD_and, mask1E i q hi hq, Bool.and_true]

/-- And adding the low bit leaves them. -/
theorem nibHi_bit (sh : IVec S8x512 32) (a : Fin 8) (l : Fin 512) (i q : ℕ) (hi : i < 4) (hq : q < 4) :
    (nibHi sh (ix2 a l)).getLsbD (8 * i + (q + 1)) = (sh (ix2 a l)).getLsbD (8 * i + (q + 1)) := by
  show (nibLo sh (ix2 a l) ||| 16843009#32).getLsbD _ = _
  rw [BitVec.getLsbD_or, mask01 i q hi hq, Bool.or_false, nibLo_bit sh a l i q hi hq]

/-- The table row asked for at position `r`: bits 1 to 4 of byte row `2 r`. -/
theorem rowsOf_bit (b : IVec S32x512 8) (r : Fin 16) (l : Fin 512) (q : ℕ) (hq : q < 32) :
    (rowsOf b (ix2 r l)).getLsbD q = (decide (q < 4) && (b (ix2 ⟨2 * r.val, by omega⟩ l)).getLsbD (q + 1)) := by
  have h15 : (15#32).getLsbD q = decide (q < 4) := by
    interval_cases q <;> rfl
  show ((IntOp.shrsi .vector ((bitcast S16x512 16 (bitcast S8x512 32 b bitcasts_S32x512_w8_S8x512_w32) bitcasts_S8x512_w32_S16x512_w16 (ix2 r l)).signExtend 32) 1#32) &&& 15#32).getLsbD q = _
  rw [BitVec.getLsbD_and, h15, Bool.and_comm]
  by_cases h : q < 4
  · simp only [h, decide_true, Bool.true_and]
    simp only [IntOp.shrsi, BitVec.toNat_ofNat, Nat.reducePow, Nat.reduceMod, Nat.reduceLT, if_true]
    rw [BitVec.sshiftRight', BitVec.getLsbD_sshiftRight]
    simp only [BitVec.toNat_ofNat, Nat.reducePow, Nat.reduceMod]
    rw [if_pos (by omega), BitVec.getLsbD_signExtend, if_pos (by omega), Nat.add_comm 1 q]
    rw [bitcast_bit (bitcast S8x512 32 b bitcasts_S32x512_w8_S8x512_w32) _ r l (q + 1) (by omega) (by decide) ⟨r.val / 2, by omega⟩ (by dsimp only; omega)]
    rw [bitcast_bit b _ ⟨r.val / 2, by omega⟩ l ((r.val * 16 + (q + 1)) % 32) (by omega) (by decide) ⟨2 * r.val, by omega⟩ (by dsimp only; omega)]
    have e : (r.val / 2 * 32 + (r.val * 16 + (q + 1)) % 32) % 8 = q + 1 := by omega
    dsimp only
    rw [e]
    have h2 : ¬ 32 ≤ q := by omega
    have h3 : q + 1 < 32 := by omega
    simp only [h2, h3, decide_true, decide_false, Bool.not_false, Bool.true_and]
  · simp [h]

/-- Row `i` of the bytes of words `x`: bit `q + 1` is bit `q + 1` of byte `i % 4` of word row `i / 4`. -/
theorem bytes_bit (x : IVec S8x512 32) (i : Fin 32) (l : Fin 512) (q : ℕ) (hq : q < 4) :
    (bitcast S32x512 8 x bitcasts_S8x512_w32_S32x512_w8 (ix2 i l)).getLsbD (q + 1)
      = (x (ix2 ⟨i.val / 4, by omega⟩ l)).getLsbD (8 * (i.val % 4) + (q + 1)) := by
  rw [bitcast_bit x _ i l (q + 1) (by omega) (by decide) ⟨i.val / 4, by omega⟩ (by dsimp only; omega)]
  congr 1
  omega

/-- Position `r` of the even lookup asks for the nibble of packed row `2 r`. -/
theorem rows_even (hi : Bool) (w : IVec S32x512 8) (r : Fin 16) (l : Fin 512) :
    rowsOf (evenBytes (shifted hi w)) (ix2 r l) = nibble hi (w (ix2 ⟨2 * r.val, by omega⟩ l)) := by
  apply BitVec.eq_of_getLsbD_eq
  intro q hq
  rw [rowsOf_bit _ r l q hq]
  by_cases h : q < 4
  · simp only [h, decide_true, Bool.true_and]
    unfold evenBytes
    rw [bytes_bit _ _ l q h]
    dsimp only
    show ((nibLo (shifted hi w) _ &&& 16711935#32) ||| (IntOp.shli .vector (nibHi (shifted hi w) _ &&& 16711935#32) 8#32)).getLsbD _ = _
    have ei : 2 * r.val % 4 < 4 := by omega
    rw [BitVec.getLsbD_or, BitVec.getLsbD_and, maskEven _ q ei h]
    simp only [IntOp.shli, BitVec.toNat_ofNat, Nat.reducePow, Nat.reduceMod, Nat.reduceLT, if_true]
    rw [BitVec.shiftLeft_eq', BitVec.getLsbD_shiftLeft, nibLo_bit _ _ l _ q ei h]
    rw [shifted_bit hi w ⟨2 * r.val / 4, by omega⟩ l (2 * r.val % 4) q ei h ⟨2 * r.val, by omega⟩ (by dsimp only; omega)]
    simp only [BitVec.toNat_ofNat, Nat.reducePow, Nat.reduceMod]
    have e0 : 2 * r.val % 4 % 2 = 0 := by omega
    rw [e0]
    rcases (by omega : 2 * r.val % 4 = 0 ∨ 2 * r.val % 4 = 2) with e | e
    · have : 8 * (2 * r.val % 4) + (q + 1) < 8 := by omega
      simp [this]
    · have e8 : 8 * (2 * r.val % 4) + (q + 1) - 8 = 8 * 1 + (q + 1) := by omega
      rw [e8, BitVec.getLsbD_and, maskEven 1 q (by omega) h]
      simp
  · rw [nibble_bit]; simp [h]

/-- The odd-row mask at row `i`. -/
theorem odd_apply (i : Fin 32) (l : Fin 512) : k0_pay384 (ix2 i l) = if i.val % 2 = 1 then 1#1 else 0#1 := by
  show IntOp.cmpi .eq (IntOp.andi (BitVec.ofNat 32 (0 * S32x512.size 0 + i.val)) 1#32) 1#32 = _
  revert i; decide +kernel

/-- Position `r` of the odd lookup asks for the nibble of packed row `2 r + 1`. -/
theorem rows_odd (hi : Bool) (w : IVec S32x512 8) (r : Fin 16) (l : Fin 512) :
    rowsOf (oddBytes k0_pay384 (shifted hi w)) (ix2 r l) = nibble hi (w (ix2 ⟨2 * r.val + 1, by omega⟩ l)) := by
  apply BitVec.eq_of_getLsbD_eq
  intro q hq
  rw [rowsOf_bit _ r l q hq]
  by_cases h : q < 4
  · simp only [h, decide_true, Bool.true_and]
    show (Scalar.select (k0_pay384 (ix2 _ l)) _ (bitcast S32x512 8 (shrui (nibLo (shifted hi w)) (broadcast S8x512 8#32)) bitcasts_S8x512_w32_S32x512_w8 (ix2 _ l))).getLsbD _ = _
    rw [odd_apply, if_neg (by dsimp only; omega)]
    show (bitcast S32x512 8 (shrui (nibLo (shifted hi w)) (broadcast S8x512 8#32)) bitcasts_S8x512_w32_S32x512_w8 (ix2 _ l)).getLsbD _ = _
    rw [bytes_bit _ _ l q h]
    dsimp only
    show (IntOp.shrui .vector (nibLo (shifted hi w) _) 8#32).getLsbD _ = _
    simp only [IntOp.shrui, BitVec.toNat_ofNat, Nat.reducePow, Nat.reduceMod, Nat.reduceLT, if_true]
    rw [BitVec.ushiftRight_eq', BitVec.getLsbD_ushiftRight]
    simp only [BitVec.toNat_ofNat, Nat.reducePow, Nat.reduceMod]
    have e : 8 + (8 * (2 * r.val % 4) + (q + 1)) = 8 * (2 * r.val % 4 + 1) + (q + 1) := by omega
    rw [e, nibLo_bit _ _ l _ q (by omega) h]
    exact shifted_bit hi w ⟨2 * r.val / 4, by omega⟩ l (2 * r.val % 4 + 1) q (by omega) h ⟨2 * r.val + 1, by omega⟩ (by dsimp only; omega)
  · rw [nibble_bit]; simp [h]

end Cert.KernelIdeal.Hand
end
-- ==== Proof.Weights.lean ====
/-
  What the kernel's decode computes over the extended reals: the weight at any row of a chunk is the code of one nibble
  of one packed byte times the scale of its block of 64 rows.
-/
module

public import proofs.«01_k».proof.Proof.Nibbles
public import proofs.«01_k».proof.Proof.Values
public import Idealize.ShloMosaic.Lib.Pointwise
public import Idealize.ShloMosaic.Lib.Pipeline.Value
public import Idealize.ShloMosaic.PureOps.Ideal

@[expose] public section

set_option maxRecDepth 16384

noncomputable section

namespace Cert.KernelIdeal.Hand

open Cert.KernelIdeal Cert.KernelIdeal.Gen
open Idealize.ShloMosaic

/-- The sixteen code values, as the bits of 32-bit floats. -/
def nf4Bits : Fin 16 → BitVec 32 :=
  ![0xBF800000#32, 0xBF3239B1#32, 0xBF066B30#32, 0xBECA32A0#32, 0xBE91A24D#32, 0xBE3D353F#32, 0xBDBA7871#32, 0x00000000#32,
    0x3DA2FAFF#32, 0x3E24CAE3#32, 0x3E7C04DD#32, 0x3EAD033A#32, 0x3EE1A4B8#32, 0x3F1007AB#32, 0x3F3913B3#32, 0x3F800000#32]

/-- The value of code `n`. -/
def nf4 (n : Fin 16) : EReal := Ideal.ofBits .f32 (nf4Bits n)

/-- The value of the code that a word names. -/
def nf4Word (n : BitVec 32) : EReal := nf4 ⟨n.toNat % 16, Nat.mod_lt _ (by decide)⟩

/-- The kernel's table holds code `r` in row `r`. -/
theorem codeTable_apply (r : Fin 16) (l : Fin 512) : codeTable (F := Ideal) (ix2 r l) = nf4 r := by
  obtain ⟨r, hr⟩ := r
  unfold codeTable
  pointwise [k0_pay383, k0_pay381, k0_pay382, nf4]
  interval_cases r
  all_goals simp [Scalar.select, IntOp.cmpi, nf4Bits]

/-- The scaled table holds code `r` times the column's scale in row `r`. -/
theorem scaledTable_apply (tab : FVec Ideal S16x512 .bf16) (am : FVec Ideal S1x512 .f32) (r : Fin 16) (l : Fin 512) :
    scaledTable tab am (ix2 r l) = tab (ix2 r l) * am (ix2 0 l) := by
  pointwise [scaledTable]

/-- A lookup reads the table's row that the bytes ask for. -/
theorem lookup_apply (tab : FVec Ideal S16x512 .bf16) (b : IVec S32x512 8) (r : Fin 16) (l : Fin 512) :
    lookup tab b (ix2 r l) = tab (ix2 ⟨(rowsOf b (ix2 r l)).toNat % 16, Nat.mod_lt _ (by decide)⟩ l) := by
  pointwise [lookup]

/-- The lane of the activations that weight row `R` multiplies; also twice the packed row its nibble comes from, plus one
    for the high nibble. -/
def lane (R : ℕ) : ℕ := 64 * (R / 64) + 4 * (R % 16) + 2 * (R / 16 % 2) + R / 32 % 2

theorem lane_lt {n R : ℕ} (h : R < 64 * n) : lane R < 64 * n := by
  unfold lane; omega

/-- A row's lane lies in the row's block, at the lane of the row within it. -/
theorem lane_split (R : ℕ) : lane R = 64 * (R / 64) + lane (R % 64) ∧ lane (R % 64) < 64 := by
  unfold lane
  have e1 : R % 64 % 16 = R % 16 := by omega
  have e2 : R % 64 / 16 % 2 = R / 16 % 2 := by omega
  have e3 : R % 64 / 32 % 2 = R / 32 % 2 := by omega
  have e4 : R % 64 / 64 = 0 := by omega
  rw [e1, e2, e3, e4]
  omega

/-- The lane of row `32 h + 16 o + r` of a block, `h` and `o` bits and `r` below 16. -/
theorem lane_block (h o : Bool) (r : ℕ) (hr : r < 16) : lane (32 * h.toNat + 16 * o.toNat + r) = 4 * r + 2 * o.toNat + h.toNat := by
  unfold lane; cases h <;> cases o <;> simp only [Bool.toNat_true, Bool.toNat_false] <;> omega

/-- The weight that a block's packed rows `w` and scale `s` give for lane `K` of the block: the code of a nibble, scaled. -/
def weight (w : BitVec 8) (s : EReal) (K : ℕ) : EReal := nf4Word (nibble (K % 2 = 1) w) * s

/-- A decoded block at row `p`. -/
theorem decodeBlock_apply (am : FVec Ideal S1x512 .f32) (w : Vec Ideal S32x512 .i8) (p : Fin 64) (l : Fin 512) :
    decodeBlock (F := Ideal) codeTable k0_pay384 am w (ix2 p l)
      = weight (w (ix2 ⟨lane p.val / 2, by unfold lane; omega⟩ l)) (am (ix2 0 l)) (lane p.val) := by
  have key (hi : Bool) (r : Fin 16) (odd : Bool)
      (hp : p.val = 32 * hi.toNat + 16 * odd.toNat + r.val) (b : IVec S32x512 8) (i : Fin 32) (hi' : i.val = 2 * r.val + odd.toNat)
      (hb : rowsOf b (ix2 r l) = nibble hi (w (ix2 i l))) :
      lookup (scaledTable (F := Ideal) codeTable am) b (ix2 r l)
        = weight (w (ix2 ⟨lane p.val / 2, by unfold lane; omega⟩ l)) (am (ix2 0 l)) (lane p.val) := by
    have e := lane_block hi odd r.val r.isLt
    rw [← hp] at e
    have ei : (⟨lane p.val / 2, by unfold lane; omega⟩ : Fin 32) = i := by
      apply Fin.ext; dsimp only; rw [hi', e]; cases hi <;> cases odd <;> simp only [Bool.toNat_true, Bool.toNat_false] <;> omega
    have eh : decide (lane p.val % 2 = 1) = hi := by
      rw [e]; cases hi <;> simp only [Bool.toNat_true, Bool.toNat_false, decide_eq_true_eq, decide_eq_false_iff_not] <;> omega
    rw [lookup_apply, scaledTable_apply, codeTable_apply, hb, ei]
    unfold weight nf4Word
    rw [eh]
  by_cases h0 : p.val < 16
  · refine Eq.trans ?_ (key false ⟨p.val, h0⟩ false (by simp) _ ⟨2 * p.val, by omega⟩ (by simp) (rows_even false w ⟨p.val, h0⟩ l))
    pointwise [decodeBlock]
    simp only [h0, dif_pos]
    rfl
  by_cases h1 : p.val < 32
  · refine Eq.trans ?_ (key false ⟨p.val - 16, by omega⟩ true (by simp; omega) _ ⟨2 * (p.val - 16) + 1, by omega⟩ (by simp) (rows_odd false w ⟨p.val - 16, by omega⟩ l))
    pointwise [decodeBlock]
    rw [dif_neg h0, dif_pos (by omega)]
    rfl
  by_cases h2 : p.val < 48
  · refine Eq.trans ?_ (key true ⟨p.val - 32, by omega⟩ false (by simp; omega) _ ⟨2 * (p.val - 32), by omega⟩ (by simp) (rows_even true w ⟨p.val - 32, by omega⟩ l))
    pointwise [decodeBlock]
    rw [dif_neg h0, dif_neg (by omega), dif_pos (by omega)]
    rfl
  · refine Eq.trans ?_ (key true ⟨p.val - 48, by omega⟩ true (by simp; omega) _ ⟨2 * (p.val - 48) + 1, by omega⟩ (by simp) (rows_odd true w ⟨p.val - 48, by omega⟩ l))
    pointwise [decodeBlock]
    rw [dif_neg h0, dif_neg (by omega), dif_neg (by omega)]
    rfl

/-- The weight of lane `K` of the activations in column `l`: the code of the low nibble of packed row `K / 2` when `K` is
    even, of the high nibble when it is odd, times the scale of the 64 lanes that `K` is in. -/
def deq {n : ℕ} (W : (⟨2, ![8192, n]⟩ : Shape).Idx → BitVec 8) (A : (⟨2, ![256, n]⟩ : Shape).Idx → EReal) (K : Fin 16384) (l : Fin n) : EReal :=
  weight (W (ix2 ⟨K.val / 2, by omega⟩ l)) (A (ix2 ⟨K.val / 64, by omega⟩ l)) K.val

/-- Lanes, permuted: the lane that weight row `R` multiplies. -/
def laneF (R : Fin 16384) : Fin 16384 := ⟨lane R.val, lane_lt (n := 256) R.isLt⟩

/-- Weight row `p` of chunk `k` is the weight of the lane it multiplies. -/
theorem chunkW_apply (A : Vec Ideal S256x512 .f32) (W : Vec Ideal S8192x512 .i8) (k : Fin k0_t2_loop.trips) (p : Fin 2048) (l : Fin 512) (R : Fin 16384)
    (hR : R.val = 2048 * k.val + p.val) :
    chunkW (F := Ideal) codeTable k0_pay384 A W k (ix2 p l) = deq W A (laneF R) l := by
  unfold chunkW
  refine (concatenate_ofFn_apply (t := S2048x512) (s₁ := S64x512) 0 (fun j => blockW codeTable k0_pay384 A W k j) _ rfl 64 rfl (ix2 p l)
    ⟨p.val / 64, by omega⟩ rfl (ix2 ⟨p.val % 64, by omega⟩ l) rfl (Fin.forall_fin_two.mpr ⟨fun h => absurd rfl h, fun _ => rfl⟩)).trans ?_
  unfold blockW
  rw [decodeBlock_apply]
  unfold deq
  have eR : lane R.val = 64 * (32 * k.val + p.val / 64) + lane (p.val % 64) ∧ lane (p.val % 64) < 64 := by
    have h := lane_split R.val
    rw [show R.val / 64 = 32 * k.val + p.val / 64 by omega, show R.val % 64 = p.val % 64 by omega] at h
    exact h
  have ew : packedRows (F := Ideal) W k ⟨p.val / 64, by omega⟩ (ix2 ⟨lane (p.val % 64) / 2, by unfold lane; omega⟩ l) = W (ix2 ⟨(laneF R).val / 2, by omega⟩ l) := by
    unfold packedRows
    refine ld_at W _ _ (k0_off3_eq k ⟨p.val / 64, by omega⟩) _ _ (Fin.forall_fin_two.mpr ⟨?_, ?_⟩)
    · show lane R.val / 2 = 1024 * k.val + 32 * (p.val / 64) + lane (p.val % 64) / 2
      omega
    · exact (Nat.zero_add _).symm
  have ea : extractStridedSlice S1x512 ![p.val / 64, 0] (scaleRows (F := Ideal) A k) (slices_row ⟨p.val / 64, by omega⟩) (ix2 0 l) = A (ix2 ⟨(laneF R).val / 64, by omega⟩ l) := by
    pointwise
    unfold scaleRows
    refine ld_at A _ _ (k0_off2_eq k) _ _ (Fin.forall_fin_two.mpr ⟨?_, ?_⟩)
    · show lane R.val / 64 = 32 * k.val + p.val / 64
      omega
    · exact (Nat.zero_add _).symm
  rw [ew, ea]
  unfold weight
  have eb : decide (lane (p.val % 64) % 2 = 1) = decide ((laneF R).val % 2 = 1) := by
    have e : lane (p.val % 64) % 2 = lane R.val % 2 := by omega
    exact congrArg (fun n => decide (n = 1)) e
  rw [eb]

end Cert.KernelIdeal.Hand
end
-- ==== Proof.Tile.lean ====
/-
  One column tile of the kernel's result over the extended reals, element by element: the sum over all 16384 lanes of the
  activation times the weight of that lane, plus the low-rank product.
-/
module

public import proofs.«01_k».proof.Proof.Weights

@[expose] public section

set_option maxRecDepth 16384

noncomputable section

namespace Cert.KernelIdeal.Hand

open Cert.KernelIdeal Cert.KernelIdeal.Gen
open Idealize.ShloMosaic

/-- The sixteen-bit float 2. -/
theorem ofBits_two : Ideal.ofBits .bf16 0x4000#16 = (2 : EReal) := by
  simp [Ideal.ofBits, Ideal.ieee, -EReal.coe_mul]; norm_num; rfl

/-- The thirty-two-bit float 2. -/
theorem ofBits_two32 : Ideal.ofBits .f32 0x40000000#32 = (2 : EReal) := by
  simp [Ideal.ofBits, Ideal.ieee, -EReal.coe_mul]; norm_num; rfl

/-- One permuted block of 128 lanes: lane `i` is lane `lane i` of the block. -/
theorem pay5_apply (x : Vec Ideal S256x128 .bf16) (m : Fin 256) (i : Fin 128) :
    k0_pay5 (F := Ideal) x (ix2 m i) = x (ix2 m ⟨lane i.val, lane_lt (n := 2) i.isLt⟩) := by
  pointwise [k0_pay5]
  congr 2
  apply Fin.ext
  dsimp only
  revert i
  decide +kernel

/-- The permuted activations: lane `R` is lane `lane R` of the activations. -/
theorem permuted_apply (X : Vec Ideal S256x16384 .bf16) (m : Fin 256) (R : Fin 16384) :
    permuted (F := Ideal) X (ix2 m R) = X (ix2 m (laneF R)) := by
  unfold permuted
  refine (pay5_apply _ m ⟨R.val % 128, by omega⟩).trans ?_
  unfold laneBlock
  have e : 128 * (R.val / 128) + lane (R.val % 128) = lane R.val := by
    have h1 := lane_split R.val
    have h2 := lane_split (R.val % 128)
    have h3 : R.val % 128 % 64 = R.val % 64 := by omega
    rw [h3] at h2
    omega
  refine congrArg X ((ix2_eq_valueIdx _ _).symm.trans ?_)
  exact congrArg (ix2 m) (Fin.ext e)

/-- Twice the activations' product with the first low-rank factor. -/
theorem hidden_apply (X : Vec Ideal S256x16384 .bf16) (LA : Vec Ideal S16384x16 .bf16) (m : Fin 256) (r : Fin 16) :
    hidden (F := Ideal) X LA (ix2 m r) = (∑ d : Fin 16384, X (ix2 m d) * LA (ix2 d r)) * 2 := by
  pointwise [hidden, k0_pay380, k0_pay6]
  rw [ofBits_two]

/-- The product of lane `n` (zero past the last lane): the activation times the weight. -/
def lanePart (A : Vec Ideal S256x512 .f32) (W : Vec Ideal S8192x512 .i8) (X : Vec Ideal S256x16384 .bf16) (m : Fin 256) (l : Fin 512) (n : ℕ) : EReal :=
  if h : n < 16384 then X (ix2 m (laneF ⟨n, h⟩)) * deq W A (laneF ⟨n, h⟩) l else 0

/-- One chunk adds its product to the accumulator. -/
theorem pay3_apply (w : FVec Ideal S2048x512 .bf16) (acc : Vec Ideal S256x512 .f32) (x : Vec Ideal S256x2048 .bf16) (m : Fin 256) (l : Fin 512) :
    k0_pay3 (F := Ideal) w acc x (ix2 m l) = acc (ix2 m l) + ∑ p : Fin 2048, x (ix2 m p) * w (ix2 p l) := by
  pointwise [k0_pay3]

/-- The columns a chunk multiplies. -/
theorem chunkX_apply (X : Vec Ideal S256x16384 .bf16) (k : Fin k0_t2_loop.trips) (m : Fin 256) (p : Fin 2048) (R : Fin 16384)
    (hR : R.val = 2048 * k.val + p.val) : chunkX (F := Ideal) X k (ix2 m p) = X (ix2 m R) :=
  ld_at X _ _ (k0_off4_eq k) _ _ (Fin.forall_fin_two.mpr ⟨(Nat.zero_add _).symm, hR⟩)

/-- One more chunk. -/
theorem accum_succ (tab : FVec Ideal S16x512 .bf16) (odd : IVec S32x512 1) (A : Vec Ideal S256x512 .f32) (W : Vec Ideal S8192x512 .i8)
    (XP : Vec Ideal S256x16384 .bf16) (a0 : Vec Ideal S256x512 .f32) (k : ℕ) (hk : k < k0_t2_loop.trips) :
    accum tab odd A W XP a0 (k + 1) = k0_pay3 (chunkW tab odd A W ⟨k, hk⟩) (accum tab odd A W XP a0 k) (chunkX XP ⟨k, hk⟩) := by
  rw [accum, dif_pos hk]

/-- After `k` chunks the accumulator holds the sum over the first `2048 k` rows. -/
theorem accum_apply (A : Vec Ideal S256x512 .f32) (W : Vec Ideal S8192x512 .i8) (X : Vec Ideal S256x16384 .bf16) (a0 : Vec Ideal S256x512 .f32)
    (m : Fin 256) (l : Fin 512) (k : ℕ) (hk : k ≤ k0_t2_loop.trips) :
    accum (F := Ideal) codeTable k0_pay384 A W (permuted X) a0 k (ix2 m l)
      = a0 (ix2 m l) + ∑ n ∈ Finset.range (2048 * k), lanePart A W X m l n := by
  induction k with
  | zero => rw [accum, Nat.mul_zero, Finset.sum_range_zero, add_zero]
  | succ k ih =>
    have h8 : k < 8 := Nat.lt_of_lt_of_eq hk trips2
    rw [accum_succ _ _ _ _ _ _ k hk, pay3_apply, ih (Nat.le_of_succ_le hk), Nat.mul_succ, Finset.sum_range_add, add_assoc]
    congr 2
    rw [Finset.sum_range]
    refine Finset.sum_congr rfl fun p _ => ?_
    have hp : 2048 * k + p.val < 16384 := by omega
    rw [chunkW_apply A W ⟨k, hk⟩ p l ⟨2048 * k + p.val, hp⟩ rfl, lanePart, dif_pos hp, chunkX_apply _ ⟨k, hk⟩ m p ⟨2048 * k + p.val, hp⟩ rfl, permuted_apply]

/-- The row whose lane is `K`. -/
def rowF (K : Fin 16384) : Fin 16384 := ⟨64 * (K.val / 64) + 32 * (K.val % 2) + 16 * (K.val / 2 % 2) + K.val / 4 % 16, by omega⟩

/-- The digits of a lane, put in the row's order. -/
theorem digits_row (a x y z : ℕ) (hx : x < 16) (hy : y < 2) (hz : z < 2) :
    64 * ((64 * a + 4 * x + 2 * y + z) / 64) + 32 * ((64 * a + 4 * x + 2 * y + z) % 2) + 16 * ((64 * a + 4 * x + 2 * y + z) / 2 % 2)
      + (64 * a + 4 * x + 2 * y + z) / 4 % 16 = 64 * a + 32 * z + 16 * y + x := by
  have h0 : (64 * a + 4 * x + 2 * y + z) / 64 = a := by omega
  have h1 : (64 * a + 4 * x + 2 * y + z) % 2 = z := by omega
  have h2 : (64 * a + 4 * x + 2 * y + z) / 2 = 32 * a + 2 * x + y := by omega
  have h3 : (64 * a + 4 * x + 2 * y + z) / 4 = 16 * a + x := by omega
  rw [h0, h1, h2, h3]
  omega

/-- The row whose lane is row `R`'s lane is `R`. -/
theorem rowF_laneF (R : Fin 16384) : rowF (laneF R) = R := by
  apply Fin.ext
  refine (digits_row (R.val / 64) (R.val % 16) (R.val / 16 % 2) (R.val / 32 % 2) (by omega) (by omega) (by omega)).trans ?_
  omega

/-- Each lane is the lane of exactly one row. -/
theorem laneF_bijective : Function.Bijective laneF :=
  Finite.injective_iff_bijective.mp (Function.LeftInverse.injective rowF_laneF)

/-- A sum over the rows of the values at their lanes is the sum over the lanes. -/
theorem sum_laneF (f : Fin 16384 → EReal) : ∑ R, f (laneF R) = ∑ K, f K :=
  laneF_bijective.sum_comp f

/-- Rounding the accumulator keeps its values. -/
theorem pay4_apply (v : Vec Ideal S256x512 .f32) (m : Fin 256) (l : Fin 512) : k0_pay4 (F := Ideal) v (ix2 m l) = v (ix2 m l) := by
  pointwise [k0_pay4]

/-- The accumulator starts from the low-rank product. -/
theorem start_apply (H : Vec Ideal S256x16 .bf16) (LB : Vec Ideal S16x512 .bf16) (m : Fin 256) (l : Fin 512) :
    k0_pay1 (F := Ideal) (k0_pay385 H LB) (ix2 m l) = ∑ r : Fin 16, H (ix2 m r) * LB (ix2 r l) := by
  pointwise [k0_pay1, k0_pay385]

/-- The value of a tile at row `m`, column `l`: twice the low-rank product, then the product with the decoded weights. -/
theorem tileOut_apply (A : Vec Ideal S256x512 .f32) (W : Vec Ideal S8192x512 .i8) (X : Vec Ideal S256x16384 .bf16) (LA : Vec Ideal S16384x16 .bf16)
    (LB : Vec Ideal S16x512 .bf16) (m : Fin 256) (l : Fin 512) :
    tileOut (F := Ideal) A W (permuted X) (hidden X LA) LB (ix2 m l)
      = (∑ r : Fin 16, ((∑ d : Fin 16384, X (ix2 m d) * LA (ix2 d r)) * 2) * LB (ix2 r l)) + ∑ K : Fin 16384, X (ix2 m K) * deq W A K l := by
  unfold tileOut
  rw [pay4_apply, accum_apply A W X _ m l _ (Nat.le_refl _), trips2, start_apply]
  refine congrArg₂ (· + ·) (Finset.sum_congr rfl fun r _ => by rw [hidden_apply]) ?_
  rw [Finset.sum_range]
  exact (Finset.sum_congr rfl fun n _ => dif_pos n.isLt).trans (sum_laneF fun K => X (ix2 m K) * deq W A K l)

end Cert.KernelIdeal.Hand
end
-- ==== Proof.Ref.lean ====
/-
  The reference's result over the extended reals, element by element: twice the low-rank product plus the products of the
  even and of the odd lanes with the weights of the low and of the high nibbles.
-/
module

public import proofs.«01_k».proof.Proof.Gen.ReferenceIdeal.Run
public import proofs.«01_k».proof.Proof.Tile
public import Idealize.ShloMosaic.Lib.Pipeline.Value

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem
open Cert.KernelIdeal.Hand (nibble nf4 nf4Word nf4Bits weight deq)

section Terms

variable {F : FTy → Type} [FloatOps F]

/-- One word at every place. -/
def word (b : BitVec 32) : IVec S256x32x5120 32 := broadcastInDim S256x32x5120 ![] bcast_S_S256x32x5120 (constantI S_ 32 b)

/-- One float at every place. -/
def flt (b : BitVec 32) : FVec F S256x32x5120 .f32 := broadcastInDim S256x32x5120 ![] bcast_S_S256x32x5120 (constant S_ .f32 b)

/-- Whether each code has the bit `b` set. -/
def bit (codes : IVec S256x32x5120 32) (b : BitVec 32) : IVec S256x32x5120 1 := cmpi .ne (andi codes (word b)) (word 0#32)

/-- The value of each code, chosen bit by bit. -/
def tree (codes : IVec S256x32x5120 32) : FVec F S256x32x5120 .f32 :=
  select (bit codes 8#32)
    (select (bit codes 4#32)
      (select (bit codes 2#32) (select (bit codes 1#32) (flt 0x3F800000#32) (flt 0x3F3913B3#32)) (select (bit codes 1#32) (flt 0x3F1007AB#32) (flt 0x3EE1A4B8#32)))
      (select (bit codes 2#32) (select (bit codes 1#32) (flt 0x3EAD033A#32) (flt 0x3E7C04DD#32)) (select (bit codes 1#32) (flt 0x3E24CAE3#32) (flt 0x3DA2FAFF#32))))
    (select (bit codes 4#32)
      (select (bit codes 2#32) (select (bit codes 1#32) (flt 0x00000000#32) (flt 0xBDBA7871#32)) (select (bit codes 1#32) (flt 0xBE3D353F#32) (flt 0xBE91A24D#32)))
      (select (bit codes 2#32) (select (bit codes 1#32) (flt 0xBECA32A0#32) (flt 0xBF066B30#32)) (select (bit codes 1#32) (flt 0xBF3239B1#32) (flt 0xBF800000#32))))

/-- The packed bytes as words, 32 rows to a scale. -/
def bytes (W : Vec F S8192x5120 .i8) : IVec S256x32x5120 32 :=
  shapeCast S256x32x5120 (extui 32 (W : IVec S8192x5120 8) natLt_8_32) shapeCasts_S8192x5120_S256x32x5120

/-- The low nibbles. -/
def low (W : Vec F S8192x5120 .i8) : IVec S256x32x5120 32 := andi (bytes (F := F) W) (word 15#32)

/-- The high nibbles. -/
def high (W : Vec F S8192x5120 .i8) : IVec S256x32x5120 32 := Host.shrsi (bytes (F := F) W) (word 4#32)

/-- The weights of the given codes: their values times the scales. -/
def weights (codes : IVec S256x32x5120 32) (A : Vec F S256x5120 .f32) : FVec F S8192x5120 .bf16 :=
  shapeCast S8192x5120 (mulf (truncf .bf16 (tree codes) bitsLt_bf16_f32)
    (broadcastInDim S256x32x5120 ![0, 1, 2] bcast_S256x1x5120_S256x32x5120_0_1_2
      (broadcastInDim S256x1x5120 ![0, 2] bcast_S256x5120_S256x1x5120_0_2 (truncf .bf16 (A : FVec F S256x5120 .f32) bitsLt_bf16_f32))))
    shapeCasts_S256x32x5120_S8192x5120

/-- The even lanes of the activations. -/
def evens (X : Vec F S2x128x16384 .bf16) : Vec F S2x128x8192 .bf16 :=
  shapeCast S2x128x8192 (extractStridedSlice S2x128x8192x1 ![0, 0, 0, 0] (shapeCast S2x128x8192x2 X shapeCasts_S2x128x16384_S2x128x8192x2) slices_S2x128x8192x2_S2x128x8192x1_0_0_0_0) shapeCasts_S2x128x8192x1_S2x128x8192

/-- The odd lanes of the activations. -/
def odds (X : Vec F S2x128x16384 .bf16) : Vec F S2x128x8192 .bf16 :=
  shapeCast S2x128x8192 (extractStridedSlice S2x128x8192x1 ![0, 0, 0, 1] (shapeCast S2x128x8192x2 X shapeCasts_S2x128x16384_S2x128x8192x2) slices_S2x128x8192x2_S2x128x8192x1_0_0_0_1) shapeCasts_S2x128x8192x1_S2x128x8192

/-- The product of half the lanes with their weights. -/
def half (X : Vec F S2x128x8192 .bf16) (Wt : FVec F S8192x5120 .bf16) : FVec F S2x128x5120 .f32 :=
  Host.dotGeneral dot_S2x128x8192_S8192x5120_S2x128x5120_2_0_01_1_n_n none X Wt

/-- Twice the low-rank product. -/
def lowRank (X : Vec F S2x128x16384 .bf16) (LA : Vec F S16384x16 .bf16) (LB : Vec F S16x5120 .bf16) : FVec F S2x128x5120 .f32 :=
  mulf (broadcastInDim S2x128x5120 ![] bcast_S_S2x128x5120 (constant S_ .f32 0x40000000#32))
    (Host.dotGeneral dot_S2x128x16_S16x5120_S2x128x5120_2_0_01_1_n_n none
      (truncf .bf16 (Host.dotGeneral dot_S2x128x16384_S16384x16_S2x128x16_2_0_01_1_n_n none X LA : FVec F S2x128x16 .f32) bitsLt_bf16_f32) LB)

/-- The reference's result as a function of its arguments. -/
def refOut (X : Vec F S2x128x16384 .bf16) (W : Vec F S8192x5120 .i8) (A : Vec F S256x5120 .f32) (LA : Vec F S16384x16 .bf16) (LB : Vec F S16x5120 .bf16) :
    FVec F S256x5120 .bf16 :=
  shapeCast S256x5120 (truncf .bf16 (addf (addf (half (evens X) (weights (low (F := F) W) A)) (half (odds X) (weights (high (F := F) W) A))) (lowRank X LA LB)) bitsLt_bf16_f32)
    shapeCasts_S2x128x5120_S256x5120

/-- The printed reference computes `refOut` of its arguments. -/
theorem res_eq (m : (ℓ : Loc nD τ sig) → Buf (Elt F) ℓ) (c : Dev nD) :
    res_main_v93 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Terms

/-- The chosen value of a code below sixteen is the code's value. -/
theorem tree_apply (codes : IVec S256x32x5120 32) (a : Fin 256) (b : Fin 32) (n : Fin 5120) (w : BitVec 32) (hw : codes (ix3 a b n) = w) (h16 : w.toNat < 16) :
    tree (F := Ideal) codes (ix3 a b n) = nf4Word w := by
  pointwise [tree, bit, word, flt]
  rw [hw]
  obtain ⟨⟨k, hk⟩⟩ := w
  have h : k < 16 := h16
  unfold nf4Word
  interval_cases k
  all_goals simp [Scalar.select, IntOp.cmpi, IntOp.andi, nf4, nf4Bits]

/-- Masking a widened byte gives its low nibble. -/
theorem low_word (w : BitVec 8) : IntOp.andi (BitVec.setWidth 32 w) 15#32 = nibble false w := by
  unfold nibble IntOp.andi
  simp

/-- Shifting a widened byte down four places gives its high nibble. -/
theorem high_word : ∀ w : BitVec 8, IntOp.shrsi ArithUnit.host (BitVec.setWidth 32 w) 4#32 = nibble true w := by
  decide +kernel

/-- The low nibbles at a place. -/
theorem low_apply (W : Vec Ideal S8192x5120 .i8) (a : Fin 256) (b : Fin 32) (n : Fin 5120) (i : Fin 8192) (hi : i.val = 32 * a.val + b.val) :
    low (F := Ideal) W (ix3 a b n) = nibble false (W (ix2 i n)) := by
  pointwise [low, bytes, word]
  have e : (⟨a.val * 32 + b.val, by omega⟩ : Fin 8192) = i := Fin.ext (by show a.val * 32 + b.val = i.val; omega)
  rw [e]
  exact low_word _

/-- The high nibbles at a place. -/
theorem high_apply (W : Vec Ideal S8192x5120 .i8) (a : Fin 256) (b : Fin 32) (n : Fin 5120) (i : Fin 8192) (hi : i.val = 32 * a.val + b.val) :
    high (F := Ideal) W (ix3 a b n) = nibble true (W (ix2 i n)) := by
  pointwise [high, bytes, word]
  have e : (⟨a.val * 32 + b.val, by omega⟩ : Fin 8192) = i := Fin.ext (by show a.val * 32 + b.val = i.val; omega)
  rw [e]
  exact high_word _

/-- The weights of given codes at a row and a column. -/
theorem weights_apply (codes : IVec S256x32x5120 32) (A : Vec Ideal S256x5120 .f32) (i : Fin 8192) (n : Fin 5120) :
    weights (F := Ideal) codes A (ix2 i n) = tree (F := Ideal) codes (ix3 ⟨i.val / 32, by omega⟩ ⟨i.val % 32, by omega⟩ n) * A (ix2 ⟨i.val / 32, by omega⟩ n) := by
  pointwise [weights]

/-- The even lanes. -/
theorem evens_apply (X : Vec Ideal S2x128x16384 .bf16) (p : Fin 2) (q : Fin 128) (i : Fin 8192) :
    evens (F := Ideal) X (ix3 p q i) = X (ix3 p q ⟨2 * i.val, by omega⟩) := by
  pointwise [evens]
  exact congrArg (fun z => X (ix3 p q z)) (Fin.ext (Nat.mul_comm _ _))

/-- The odd lanes. -/
theorem odds_apply (X : Vec Ideal S2x128x16384 .bf16) (p : Fin 2) (q : Fin 128) (i : Fin 8192) :
    odds (F := Ideal) X (ix3 p q i) = X (ix3 p q ⟨2 * i.val + 1, by omega⟩) := by
  pointwise [odds]
  exact congrArg (fun z => X (ix3 p q z)) (Fin.ext (congrArg (· + 1) (Nat.mul_comm _ _)))

/-- The product of half the lanes. -/
theorem half_apply (X : Vec Ideal S2x128x8192 .bf16) (Wt : FVec Ideal S8192x5120 .bf16) (p : Fin 2) (q : Fin 128) (n : Fin 5120) :
    half (F := Ideal) X Wt (ix3 p q n) = ∑ i : Fin 8192, X (ix3 p q i) * Wt (ix2 i n) := by
  pointwise [half]

/-- Twice the low-rank product. -/
theorem lowRank_apply (X : Vec Ideal S2x128x16384 .bf16) (LA : Vec Ideal S16384x16 .bf16) (LB : Vec Ideal S16x5120 .bf16) (p : Fin 2) (q : Fin 128) (n : Fin 5120) :
    lowRank (F := Ideal) X LA LB (ix3 p q n) = 2 * ∑ r : Fin 16, (∑ d : Fin 16384, X (ix3 p q d) * LA (ix2 d r)) * LB (ix2 r n) := by
  pointwise [lowRank]
  rw [Cert.KernelIdeal.Hand.ofBits_two32]

/-- The even half of a product over all lanes. -/
theorem half_low_apply (X : Vec Ideal S2x128x16384 .bf16) (W : Vec Ideal S8192x5120 .i8) (A : Vec Ideal S256x5120 .f32) (p : Fin 2) (q : Fin 128) (n : Fin 5120) :
    half (F := Ideal) (evens X) (weights (low (F := Ideal) W) A) (ix3 p q n)
      = ∑ i : Fin 8192, X (ix3 p q ⟨2 * i.val, by omega⟩) * deq W A ⟨2 * i.val, by omega⟩ n := by
  rw [half_apply]
  refine Finset.sum_congr rfl fun i _ => ?_
  rw [evens_apply, weights_apply, tree_apply _ _ _ _ _ (low_apply W _ _ n i (by show i.val = 32 * (i.val / 32) + i.val % 32; omega)) (Cert.KernelIdeal.Hand.nibble_lt _ _)]
  unfold deq weight
  have e0 : (⟨2 * i.val / 2, by omega⟩ : Fin 8192) = i := Fin.ext (by show 2 * i.val / 2 = i.val; omega)
  have e1 : (⟨2 * i.val / 64, by omega⟩ : Fin 256) = ⟨i.val / 32, by omega⟩ := Fin.ext (by show 2 * i.val / 64 = i.val / 32; omega)
  have e2 : decide (2 * i.val % 2 = 1) = false := decide_eq_false (by omega)
  rw [e0, e1, e2]

/-- The odd half of a product over all lanes. -/
theorem half_high_apply (X : Vec Ideal S2x128x16384 .bf16) (W : Vec Ideal S8192x5120 .i8) (A : Vec Ideal S256x5120 .f32) (p : Fin 2) (q : Fin 128) (n : Fin 5120) :
    half (F := Ideal) (odds X) (weights (high (F := Ideal) W) A) (ix3 p q n)
      = ∑ i : Fin 8192, X (ix3 p q ⟨2 * i.val + 1, by omega⟩) * deq W A ⟨2 * i.val + 1, by omega⟩ n := by
  rw [half_apply]
  refine Finset.sum_congr rfl fun i _ => ?_
  rw [odds_apply, weights_apply, tree_apply _ _ _ _ _ (high_apply W _ _ n i (by show i.val = 32 * (i.val / 32) + i.val % 32; omega)) (Cert.KernelIdeal.Hand.nibble_lt _ _)]
  unfold deq weight
  have e0 : (⟨(2 * i.val + 1) / 2, by omega⟩ : Fin 8192) = i := Fin.ext (by show (2 * i.val + 1) / 2 = i.val; omega)
  have e1 : (⟨(2 * i.val + 1) / 64, by omega⟩ : Fin 256) = ⟨i.val / 32, by omega⟩ := Fin.ext (by show (2 * i.val + 1) / 64 = i.val / 32; omega)
  have e2 : decide ((2 * i.val + 1) % 2 = 1) = true := decide_eq_true (by omega)
  rw [e0, e1, e2]

/-- An entry of the reference's result. -/
theorem refOut_apply (X : Vec Ideal S2x128x16384 .bf16) (W : Vec Ideal S8192x5120 .i8) (A : Vec Ideal S256x5120 .f32) (LA : Vec Ideal S16384x16 .bf16)
    (LB : Vec Ideal S16x5120 .bf16) (r : Fin 256) (n : Fin 5120) :
    refOut (F := Ideal) X W A LA LB (ix2 r n)
      = ((∑ i : Fin 8192, X (ix3 ⟨r.val / 128, by omega⟩ ⟨r.val % 128, by omega⟩ ⟨2 * i.val, by omega⟩) * deq W A ⟨2 * i.val, by omega⟩ n)
        + ∑ i : Fin 8192, X (ix3 ⟨r.val / 128, by omega⟩ ⟨r.val % 128, by omega⟩ ⟨2 * i.val + 1, by omega⟩) * deq W A ⟨2 * i.val + 1, by omega⟩ n)
        + 2 * ∑ q : Fin 16, (∑ d : Fin 16384, X (ix3 ⟨r.val / 128, by omega⟩ ⟨r.val % 128, by omega⟩ d) * LA (ix2 d q)) * LB (ix2 q n) := by
  rw [← half_low_apply, ← half_high_apply, ← lowRank_apply]
  pointwise [refOut]

end Cert.ReferenceIdeal.Hand
end
-- ==== Proof.Result.lean ====
/-
  What the kernel leaves in its result array: each column tile is the tile of the windows' blocks, each block is a part
  of its argument, so an entry of the result is twice the low-rank product plus the product with the decoded weights.
-/
module

public import proofs.«01_k».proof.Proof.FrameI
public import proofs.«01_k».proof.Proof.Tile
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.SL.Sem

section Blocks

variable {F : FTy → Type} [FloatOps F]
variable (m : (ℓ : Loc nD τ sig) → Buf (Elt F) ℓ) (ρ : Dev nD → PrngReg)

/-- Column `l` of tile `t`. -/
def col (t : Fin cfg0.N) (l : Fin 512) : Fin 5120 :=
  ⟨512 * t.val + l.val, by have : t.val < 10 := Nat.lt_of_lt_of_eq t.isLt N_0; omega⟩

theorem idx_0 : ∀ t : Fin cfg0.N, win0_0.index t 0 = 0 ∧ win0_0.index t 1 = 0 := by decide +kernel
theorem idx_1 : ∀ t : Fin cfg0.N, win0_1.index t 0 = 0 ∧ win0_1.index t 1 = t.val := by decide +kernel
theorem idx_2 : ∀ t : Fin cfg0.N, win0_2.index t 0 = 0 ∧ win0_2.index t 1 = t.val := by decide +kernel
theorem idx_3 : ∀ t : Fin cfg0.N, win0_3.index t 0 = 0 ∧ win0_3.index t 1 = 0 := by decide +kernel
theorem idx_4 : ∀ t : Fin cfg0.N, win0_4.index t 0 = 0 ∧ win0_4.index t 1 = t.val := by decide +kernel
theorem idx_5 : ∀ t : Fin cfg0.N, win0_5.index t 0 = 0 ∧ win0_5.index t 1 = t.val := by decide +kernel

/-- The activations as the pipeline finds them: the argument, its two leading axes joined. -/
theorem V_main_v0 (c : Dev nD) :
    V m c main_v0 = shapeCast S256x16384 (m ((c : Thread nD τ).loc main_arg0)) shapeCasts_S2x128x16384_S256x16384 := by
  entry_read
  rfl

/-- The activations' block is the whole array. -/
theorem iblk_0 (c : Dev nD) (t : Fin cfg0.N) (j : S256x16384.Idx) : iblk m c 0 t j = V m c main_v0 j := by
  have hi := idx_0 t
  unfold iblk
  rw [View.read_apply]
  show V m c main_v0 _ = V m c main_v0 _
  congr 1; funext a; apply Fin.ext
  match a with
  | ⟨0, _⟩ => show win0_0.index t 0 * 256 + 1 * (j 0).val = (j 0).val; rw [hi.1]; omega
  | ⟨1, _⟩ => show win0_0.index t 1 * 16384 + 1 * (j 1).val = (j 1).val; rw [hi.2]; omega

/-- The packed codes' block: the tile's columns. -/
theorem iblk_1 (c : Dev nD) (t : Fin cfg0.N) (r : Fin 8192) (l : Fin 512) :
    iblk m c 1 t (ix2 r l) = m ((c : Thread nD τ).loc main_arg1) (ix2 r (col t l)) := by
  have hi := idx_1 t
  rw [← V_main_arg1 m c]
  unfold iblk
  rw [View.read_apply]
  show V m c main_arg1 _ = V m c main_arg1 _
  congr 1; funext a; apply Fin.ext
  match a with
  | ⟨0, _⟩ => show win0_1.index t 0 * 8192 + 1 * r.val = r.val; rw [hi.1]; omega
  | ⟨1, _⟩ => show win0_1.index t 1 * 512 + 1 * l.val = 512 * t.val + l.val; rw [hi.2]; omega

/-- The scales' block: the tile's columns. -/
theorem iblk_2 (c : Dev nD) (t : Fin cfg0.N) (r : Fin 256) (l : Fin 512) :
    iblk m c 2 t (ix2 r l) = m ((c : Thread nD τ).loc main_arg2) (ix2 r (col t l)) := by
  have hi := idx_2 t
  rw [← V_main_arg2 m c]
  unfold iblk
  rw [View.read_apply]
  show V m c main_arg2 _ = V m c main_arg2 _
  congr 1; funext a; apply Fin.ext
  match a with
  | ⟨0, _⟩ => show win0_2.index t 0 * 256 + 1 * r.val = r.val; rw [hi.1]; omega
  | ⟨1, _⟩ => show win0_2.index t 1 * 512 + 1 * l.val = 512 * t.val + l.val; rw [hi.2]; omega

/-- The first low-rank factor's block is the whole array. -/
theorem iblk_3 (c : Dev nD) (t : Fin cfg0.N) (j : S16384x16.Idx) :
    iblk m c 3 t j = m ((c : Thread nD τ).loc main_arg3) j := by
  have hi := idx_3 t
  rw [← V_main_arg3 m c]
  unfold iblk
  rw [View.read_apply]
  show V m c main_arg3 _ = V m c main_arg3 _
  congr 1; funext a; apply Fin.ext
  match a with
  | ⟨0, _⟩ => show win0_3.index t 0 * 16384 + 1 * (j 0).val = (j 0).val; rw [hi.1]; omega
  | ⟨1, _⟩ => show win0_3.index t 1 * 16 + 1 * (j 1).val = (j 1).val; rw [hi.2]; omega

/-- The second low-rank factor's block: the tile's columns. -/
theorem iblk_4 (c : Dev nD) (t : Fin cfg0.N) (r : Fin 16) (l : Fin 512) :
    iblk m c 4 t (ix2 r l) = m ((c : Thread nD τ).loc main_arg4) (ix2 r (col t l)) := by
  have hi := idx_4 t
  rw [← V_main_arg4 m c]
  unfold iblk
  rw [View.read_apply]
  show V m c main_arg4 _ = V m c main_arg4 _
  congr 1; funext a; apply Fin.ext
  match a with
  | ⟨0, _⟩ => show win0_4.index t 0 * 16 + 1 * r.val = r.val; rw [hi.1]; omega
  | ⟨1, _⟩ => show win0_4.index t 1 * 512 + 1 * l.val = 512 * t.val + l.val; rw [hi.2]; omega

/-- The tile of a column, and the column within it. -/
def tileOf (n : Fin 5120) : Fin cfg0.N := ⟨n.val / 512, by rw [show cfg0.N = 10 from N_0]; omega⟩
def within (n : Fin 5120) : Fin 512 := ⟨n.val % 512, by omega⟩

theorem col_tileOf (n : Fin 5120) : col (tileOf n) (within n) = n := Fin.ext (by show 512 * (n.val / 512) + n.val % 512 = n.val; omega)
theorem tileOf_col (t : Fin cfg0.N) (l : Fin 512) : tileOf (col t l) = t := Fin.ext (by show (512 * t.val + l.val) / 512 = t.val; omega)
theorem within_col (t : Fin cfg0.N) (l : Fin 512) : within (col t l) = l := Fin.ext (by show (512 * t.val + l.val) % 512 = l.val; omega)

/-- The result array: each column from its tile. -/
def result (c : Dev nD) : Vec F S256x5120 .bf16 := fun i => tileAt m c (tileOf (i 1)) (ix2 (i 0) (within (i 1)))

/-- The result's column `col t l` is column `l` of tile `t`. -/
theorem result_col (c : Dev nD) (t : Fin cfg0.N) (r : Fin 256) (l : Fin 512) : result m c (ix2 r (col t l)) = tileAt m c t (ix2 r l) := by
  show tileAt m c (tileOf (col t l)) (ix2 r (within (col t l))) = tileAt m c t (ix2 r l)
  rw [tileOf_col, within_col]

/-- Point `t` writes back its block of the result. -/
theorem flushed_eq (c : Dev nD) (t : Fin cfg0.N) :
    (dats m 0 c).flushed 5 t = ((cfg0.win 5).blk t).view.read (Elt F) (result m c) := by
  have hi := idx_5 t
  funext j
  rw [View.read_apply]
  have e : ((cfg0.win 5).blk t).view.emb j = (ix2 (j 0) (col t (j 1)) : S256x5120.Idx) := by
    funext a; apply Fin.ext
    match a with
    | ⟨0, _⟩ => show win0_5.index t 0 * 256 + 1 * (j 0).val = (j 0).val; rw [hi.1]; omega
    | ⟨1, _⟩ => show win0_5.index t 1 * 512 + 1 * (j 1).val = 512 * t.val + (j 1).val; rw [hi.2]; omega
  rw [e]
  exact (congrFun (after_5 m c t) j).trans ((result_col m c t (j 0) (j 1)).trans
    (congrArg (tileAt m c t) (funext fun a => match a with | ⟨0, _⟩ => rfl | ⟨1, _⟩ => rfl))).symm

/-- The result array after the run. -/
theorem final (c : Dev nD) : (dats m 0 c).arrAt 5 cfg0.N = result m c :=
  (dats m 0 c).arrAt_eq_of_cover 5 (result m c) (fun t _ => flushed_eq m c t) fun i =>
    ⟨tileOf (i 1), flush0_5 _, by
      have hi := idx_5 (tileOf (i 1))
      show i ∈ ((View.whole main_v1).slice (win0_5.rect (tileOf (i 1)))).set
      rw [View.set_slice_whole, Rect.mem_set_unit]
      intro a
      have h0 : (i 0 : Nat) < 256 := (i 0).isLt
      have h1 : (i 1 : Nat) < 5120 := (i 1).isLt
      match a with
      | ⟨0, _⟩ => show win0_5.index (tileOf (i 1)) 0 * 256 ≤ (i 0 : Nat) ∧ (i 0 : Nat) < win0_5.index (tileOf (i 1)) 0 * 256 + 256
                  rw [hi.1]; omega
      | ⟨1, _⟩ => show win0_5.index (tileOf (i 1)) 1 * 512 ≤ (i 1 : Nat) ∧ (i 1 : Nat) < win0_5.index (tileOf (i 1)) 1 * 512 + 512
                  rw [hi.2]; show (i 1 : Nat) / 512 * 512 ≤ (i 1 : Nat) ∧ (i 1 : Nat) < (i 1 : Nat) / 512 * 512 + 512; omega⟩

/-- The run: the result array as named, every argument unchanged. -/
theorem run : θ_run defs (onTc (τ := τ) (main (F := F))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r (h : (∀ c : Dev nD, r.2.mem ((c.tc : Thread nD τ).loc main_v1) = result m c) ∧ _) c => ⟨h.1 c, h.2.1 c⟩)
    (θ_run_and ((θ_run defs _ _).mono (fun _ h c => ((h c).1 5).trans (final m c)) (run_main m ρ)) (frame m ρ))

end Blocks

/-- Row `r`, column `n` of the kernel's result, in terms of the activations, packed codes, scales and low-rank factors. -/
def entry (X : Vec Ideal S256x16384 .bf16) (W : Vec Ideal S8192x5120 .i8) (A : Vec Ideal S256x5120 .f32) (LA : Vec Ideal S16384x16 .bf16)
    (LB : Vec Ideal S16x5120 .bf16) (r : Fin 256) (n : Fin 5120) : EReal :=
  (∑ q : Fin 16, ((∑ d : Fin 16384, X (ix2 r d) * LA (ix2 d q)) * 2) * LB (ix2 q n)) + ∑ K : Fin 16384, X (ix2 r K) * deq W A K n

variable (m : (ℓ : Loc nD τ sig) → Buf (Elt Ideal) ℓ)

/-- A tile's weight is the whole array's weight at the tile's column. -/
theorem deq_tile (c : Dev nD) (t : Fin cfg0.N) (K : Fin 16384) (l : Fin 512) :
    deq (iblk m c 1 t) (iblk m c 2 t) K l = deq (m ((c : Thread nD τ).loc main_arg1)) (m ((c : Thread nD τ).loc main_arg2)) K (col t l) := by
  unfold deq
  rw [iblk_1, iblk_2]

/-- An entry of the result, over the extended reals. -/
theorem result_apply (c : Dev nD) (r : Fin 256) (n : Fin 5120) :
    result m c (ix2 r n)
      = entry (V m c main_v0) (m ((c : Thread nD τ).loc main_arg1)) (m ((c : Thread nD τ).loc main_arg2)) (m ((c : Thread nD τ).loc main_arg3))
          (m ((c : Thread nD τ).loc main_arg4)) r n := by
  have hX : (iblk m c 0 t0 : Vec Ideal S256x16384 .bf16) = V m c main_v0 := funext (iblk_0 m c t0)
  have hLA : (iblk m c 3 t0 : Vec Ideal S16384x16 .bf16) = m ((c : Thread nD τ).loc main_arg3) := funext (iblk_3 m c t0)
  show tileAt m c (tileOf n) (ix2 r (within n)) = _
  unfold tileAt XP HD
  rw [hX, hLA, tileOut_apply]
  unfold entry
  simp only [deq_tile, iblk_4, col_tileOf]

end Cert.KernelIdeal.Hand
end
-- ==== Proof.Equation.lean ====
/-
  The kernel's and the reference's results are the same entry by entry over the extended reals: a sum over all lanes is
  its even half plus its odd half, the factor two moves out of the low-rank sum, and the two summands change places.
-/
module

public import proofs.«01_k».proof.Defs
public import proofs.«01_k».proof.Proof.Ref
public import proofs.«01_k».proof.Proof.Result
public import Mathlib.Data.EReal.Operations

@[expose] public section

set_option maxRecDepth 16384

noncomputable section

namespace Cert.Equation

open Idealize.ShloMosaic Idealize.ShloMosaic.TcCoe Idealize.SL.Sem
open Cert.KernelIdeal.Hand (deq entry)
open Cert.ReferenceIdeal.Hand (refOut)

/-- A sum over all lanes is the sum over the even lanes plus the sum over the odd lanes. -/
theorem sum_even_odd (f : Fin 16384 → EReal) :
    ∑ K, f K = (∑ i : Fin 8192, f ⟨2 * i.val, by omega⟩) + ∑ i : Fin 8192, f ⟨2 * i.val + 1, by omega⟩ := by
  rw [← (finProdFinEquiv (m := 8192) (n := 2)).sum_comp (fun K : Fin (8192 * 2) => f K), Fintype.sum_prod_type, ← Finset.sum_add_distrib]
  refine Finset.sum_congr rfl fun i _ => ?_
  rw [Fin.sum_univ_two]
  refine congrArg₂ (· + ·) (congrArg f (Fin.ext ?_)) (congrArg f (Fin.ext ?_))
  · show 0 + 2 * i.val = 2 * i.val
    omega
  · show 1 + 2 * i.val = 2 * i.val + 1
    omega

/-- Two times a finite sum is the sum of the doubled terms, whatever the terms. -/
theorem two_mul_sum {ι : Type} (s : Finset ι) (f : ι → EReal) : 2 * ∑ i ∈ s, f i = ∑ i ∈ s, 2 * f i := by
  classical
  induction s using Finset.induction_on with
  | empty => simp
  | insert a s ha ih =>
    rw [Finset.sum_insert ha, Finset.sum_insert ha, EReal.left_distrib_of_nonneg_of_ne_top (by norm_num) (by decide), ih]

/-- The factor two of a product may stand on its first factor. -/
theorem two_mul_mul (a b : EReal) : 2 * (a * b) = a * 2 * b := by
  rw [← mul_assoc, mul_comm 2]

/-- The activations with their two leading axes joined. -/
def joined (X : Vec Ideal Cert.ReferenceIdeal.S2x128x16384 .bf16) : Vec Ideal Cert.KernelIdeal.S256x16384 .bf16 :=
  shapeCast Cert.KernelIdeal.S256x16384 X Cert.KernelIdeal.Gen.shapeCasts_S2x128x16384_S256x16384

/-- A joined row is the row of its parts. -/
theorem joined_apply (X : Vec Ideal Cert.ReferenceIdeal.S2x128x16384 .bf16) (r : Fin 256) (K : Fin 16384) :
    joined X (ix2 r K) = X (ix3 ⟨r.val / 128, by omega⟩ ⟨r.val % 128, by omega⟩ K) := by
  pointwise [joined]

/-- The reference's entry is the kernel's. -/
theorem refOut_eq_entry (X : Vec Ideal Cert.ReferenceIdeal.S2x128x16384 .bf16) (W : Vec Ideal Cert.ReferenceIdeal.S8192x5120 .i8)
    (A : Vec Ideal Cert.ReferenceIdeal.S256x5120 .f32) (LA : Vec Ideal Cert.ReferenceIdeal.S16384x16 .bf16) (LB : Vec Ideal Cert.ReferenceIdeal.S16x5120 .bf16)
    (r : Fin 256) (n : Fin 5120) : refOut (F := Ideal) X W A LA LB (ix2 r n) = entry (joined X) W A LA LB r n := by
  rw [Cert.ReferenceIdeal.Hand.refOut_apply]
  unfold entry
  simp only [joined_apply]
  refine (add_comm _ _).trans (congrArg₂ (· + ·) ?_
    (sum_even_odd fun K => (X (ix3 ⟨r.val / 128, by omega⟩ ⟨r.val % 128, by omega⟩ K) : EReal) * deq W A K n).symm)
  refine (two_mul_sum _ _).trans (Finset.sum_congr rfl fun q _ => ?_)
  exact two_mul_mul _ _

/-- The reference's result on the kernel's arguments is the kernel's result. -/
theorem refOut_eq_result (m : (ℓ : Loc Cert.KernelIdeal.nD Cert.KernelIdeal.τ Cert.KernelIdeal.sig) → Buf (Elt Ideal) ℓ) (c : Dev Cert.KernelIdeal.nD) :
    refOut (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Hand.result m c := by
  funext i
  obtain ⟨r, n, rfl⟩ : ∃ (r : Fin 256) (n : Fin 5120), i = ix2 r n :=
    ⟨i 0, i 1, funext fun a => match a with | ⟨0, _⟩ => rfl | ⟨1, _⟩ => rfl⟩
  refine (refOut_eq_entry _ _ _ _ _ r n).trans ?_
  refine Eq.trans ?_ (Cert.KernelIdeal.Hand.result_apply m c r n).symm
  rw [Cert.KernelIdeal.Hand.V_main_v0]
  rfl

/-- The kernel and the reference end with the same result. -/
theorem algebraic : Cert.algebraic_KernelIdeal_ReferenceIdeal := by
  intro m ρ m' ρ' _ hagree
  refine ⟨fun c => Cert.KernelIdeal.Hand.result m c, Cert.KernelIdeal.Hand.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4⟩ := hagree c
  refine (Cert.ReferenceIdeal.Hand.res_eq m' c).trans ?_
  rw [h0, h1, h2, h3, h4]
  exact refOut_eq_result m c

end Cert.Equation
end
-- ==== Proof.lean ====
module

public import proofs.«01_k».proof.Defs
public import proofs.«01_k».proof.Proof.Gen.Kernel
public import proofs.«01_k».proof.Proof.Gen.ReferenceIdeal.Run
public import proofs.«01_k».proof.Proof.FrameI
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem

/-- The kernel as printed terminates, keeps its arguments and leaves every semaphore at zero. -/
theorem frame_kernel : Cert.quiescent_Kernel := fun m ρ _ => Cert.Kernel.Hand.frame m ρ

/-- So does the kernel over the extended reals. -/
theorem frame_kernelIdeal : Cert.quiescent_KernelIdeal := fun m ρ _ => Cert.KernelIdeal.Hand.frame m ρ

/-- So does the reference over the extended reals: it runs host operations only, which write no
argument, and it has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Every claim, the last that the kernel's result over the extended reals is the reference's. -/
theorem claim : Cert.Claim :=
  ⟨Cert.Kernel.Gen.facts, Cert.KernelIdeal.Gen.facts, Cert.ReferenceIdeal.Gen.facts,
    frame_kernel, frame_kernelIdeal, frame_reference, trivial, Cert.Equation.algebraic⟩

end Cert.Proof

end
